-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S2x4096x512 : Shape := ⟨3, ![2, 4096, 512]⟩
abbrev S8x512x1024 : Shape := ⟨3, ![8, 512, 1024]⟩
abbrev S2 : Shape := ⟨1, ![2]⟩
abbrev S8 : Shape := ⟨1, ![8]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S2x4096x512, .f32⟩
  | .local _ .vmem, ⟨3, _⟩ => ⟨S8x512x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v19 : BitVec 32 := Scalar.xori v2 c7_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 32 := Scalar.xori v2 c6_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_22 : BitVec 32) (c0_i32_23 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c1_i32_22
  let c1024_i32 : BitVec 32 := 1024#32
  let v26 : BitVec 32 := Scalar.muli v25 c1024_i32
  let v27 : BitVec 32 := Scalar.addi v26 c0_i32_23
  ![0, v27.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_75 : BitVec 32 := 512#32
  let v82 : BitVec 32 := Scalar.muli v2 c512_i32_75
  let c0_i32_80 : BitVec 32 := 0#32
  ![v82.toNat, 0]
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v81 : BitVec 32 := Scalar.xori v2 c1_i32_74
  let c1_i32_78 : BitVec 32 := 1#32
  let v83 : BitVec 32 := Scalar.muli v81 c1_i32_78
  let v84 : BitVec 32 := Scalar.addi c0_i32_79 v83
  v84.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v140 : BitVec 32 := Scalar.xori v2 c3_i32_132
  let c1_i32_136 : BitVec 32 := 1#32
  let v142 : BitVec 32 := Scalar.muli v140 c1_i32_136
  let v143 : BitVec 32 := Scalar.addi c0_i32_137 v142
  v143.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_190 : BitVec 32 := 4#32
  let v199 : BitVec 32 := Scalar.xori v2 c4_i32_190
  let c1_i32_194 : BitVec 32 := 1#32
  let v201 : BitVec 32 := Scalar.muli v199 c1_i32_194
  let v202 : BitVec 32 := Scalar.addi c0_i32_195 v201
  v202.toNat
def k0_dev11 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_248 : BitVec 32 := 2#32
  let v258 : BitVec 32 := Scalar.xori v2 c2_i32_248
  let c1_i32_252 : BitVec 32 := 1#32
  let v260 : BitVec 32 := Scalar.muli v258 c1_i32_252
  let v261 : BitVec 32 := Scalar.addi c0_i32_253 v260
  v261.toNat
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_306 : BitVec 32 := 5#32
  let v317 : BitVec 32 := Scalar.xori v2 c5_i32_306
  let c1_i32_310 : BitVec 32 := 1#32
  let v319 : BitVec 32 := Scalar.muli v317 c1_i32_310
  let v320 : BitVec 32 := Scalar.addi c0_i32_311 v319
  v320.toNat
def k0_dev13 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_364 : BitVec 32 := 7#32
  let v376 : BitVec 32 := Scalar.xori v2 c7_i32_364
  let c1_i32_368 : BitVec 32 := 1#32
  let v378 : BitVec 32 := Scalar.muli v376 c1_i32_368
  let v379 : BitVec 32 := Scalar.addi c0_i32_369 v378
  v379.toNat
def k0_dev14 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_422 : BitVec 32 := 6#32
  let v435 : BitVec 32 := Scalar.xori v2 c6_i32_422
  let c1_i32_426 : BitVec 32 := 1#32
  let v437 : BitVec 32 := Scalar.muli v435 c1_i32_426
  let v438 : BitVec 32 := Scalar.addi c0_i32_427 v437
  v438.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_453 : BitVec 32 := 512#32
  let v467 : BitVec 32 := Scalar.muli v2 c512_i32_453
  let v468 : Index := Scalar.indexCast v467
  let c0_454 : Index := 0#32
  ![v468.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_469 : BitVec 32 := 512#32
  let v483 : BitVec 32 := Scalar.muli v2 c512_i32_469
  let v484 : Index := Scalar.indexCast v483
  let c512_470 : Index := 512#32
  ![v484.toNat, 512]
def k0_off6 (d0 : Dev nD) (c1_i32_471 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v486 : BitVec 32 := Scalar.xori v2 c1_i32_471
  ![v486.toNat]
def k0_off7 (d0 : Dev nD) (c1_i32_471 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v486 : BitVec 32 := Scalar.xori v2 c1_i32_471
  let c512_i32_480 : BitVec 32 := 512#32
  let v494 : BitVec 32 := Scalar.muli v486 c512_i32_480
  let c0_i32_486 : BitVec 32 := 0#32
  ![v494.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Contents.lean ====
/-
The eight devices, the buffers' regions and what they hold.

Device `d` multiplies its 512 rows of `x` by the sixteen 512-column blocks of `w`; the two blocks that make up the
columns of device `d ^ r` are collected in slab `r` of the outgoing buffer and copied to rows `512 d …` of that
device's result.  This module states the peer relation, the index sets the proof cuts the three buffers into (a slot of
the weight buffer, a half slab of the outgoing buffer, a row block of the result), the contents each of them is to
hold, and that the program's loads, stores and copies read and write exactly those.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Value
public import Idealize.ShloMosaic.Lib.ValueIdxCore

@[expose] public section

noncomputable section

namespace Cert.GemmProof

open Cert.KernelIdeal Cert.KernelIdeal.Gen
open Idealize.ShloMosaic
open Idealize.ShloMosaic.TcCoe
open Idealize.ShloMosaic.ValueIdx (ix2 ix3 eq_ix2 eq_ix3)

variable {F : FTy → Type} [FloatOps F]

/-! ## Peers -/

set_option backward.proofsInPublic true in
/-- The device whose number is `d` with the bits of `r` flipped. -/
def peer (d : Dev nD) (r : Fin 8) : Dev nD := ⟨(d.val ^^^ r.val) % 8, Nat.mod_lt _ (by decide)⟩

/-- A device's number as a number below eight: the name of its row block and of its receive semaphore. -/
abbrev num (d : Dev nD) : Fin 8 := d

theorem peer_peer (d : Dev nD) (r : Fin 8) : peer (peer d r) r = d := by revert d r; decide
theorem peer_num (d e : Dev nD) : peer d (num (peer d (num e))) = e := by revert d e; decide
theorem peer_comm (d e : Dev nD) : peer d (num e) = peer e (num d) := by revert d e; decide
theorem peer_zero (d : Dev nD) : peer d 0 = d := by revert d; decide
theorem peer_ne (d : Dev nD) {r : Fin 8} (h : r ≠ 0) : peer d r ≠ d := by revert d r; decide
theorem peer_inj (d : Dev nD) {r r' : Fin 8} (h : peer d r = peer d r') : r = r' := by revert d r r'; decide

/-! ## Regions -/

/-- Slot `k` of the weight buffer. -/
def slotR (k : ℕ) : Finset S2x4096x512.Idx := Finset.univ.filter fun i => (i 0).val = k
/-- Slab `r` of the outgoing buffer. -/
def slabR (r : ℕ) : Finset S8x512x1024.Idx := Finset.univ.filter fun i => (i 0).val = r
/-- Columns `512 h …` of slab `r` of the outgoing buffer. -/
def halfR (r h : ℕ) : Finset S8x512x1024.Idx := Finset.univ.filter fun i => (i 0).val = r ∧ (i 2).val / 512 = h
/-- Rows `512 s …` of the result buffer. -/
def rowsR (s : ℕ) : Finset S4096x1024.Idx := Finset.univ.filter fun i => (i 0).val / 512 = s
/-- Columns `512 h …` of rows `512 s …` of the result buffer. -/
def tileR (s h : ℕ) : Finset S4096x1024.Idx := Finset.univ.filter fun i => (i 0).val / 512 = s ∧ (i 1).val / 512 = h

theorem slab_eq (r : ℕ) : slabR r = halfR r 0 ∪ halfR r 1 := by
  ext i
  have := (i 2).isLt
  simp only [slabR, halfR, Finset.mem_union, Finset.mem_filter, Finset.mem_univ, true_and]
  change _ < 1024 at this
  omega
theorem half_disj (r : ℕ) : Disjoint (halfR r 0) (halfR r 1) := by
  rw [Finset.disjoint_left]; intro i
  simp only [halfR, Finset.mem_filter, Finset.mem_univ, true_and]
  omega
theorem rows_eq (s : ℕ) : rowsR s = tileR s 0 ∪ tileR s 1 := by
  ext i
  have := (i 1).isLt
  simp only [rowsR, tileR, Finset.mem_union, Finset.mem_filter, Finset.mem_univ, true_and]
  change _ < 1024 at this
  omega
theorem tile_disj (s : ℕ) : Disjoint (tileR s 0) (tileR s 1) := by
  rw [Finset.disjoint_left]; intro i
  simp only [tileR, Finset.mem_filter, Finset.mem_univ, true_and]
  omega
theorem rows_disj {s t : ℕ} (h : s ≠ t) : Disjoint (rowsR s) (rowsR t) := by
  rw [Finset.disjoint_left]; intro i
  simp only [rowsR, Finset.mem_filter, Finset.mem_univ, true_and]
  omega
theorem slab_disj {s t : ℕ} (h : s ≠ t) : Disjoint (slabR s) (slabR t) := by
  rw [Finset.disjoint_left]; intro i
  simp only [slabR, Finset.mem_filter, Finset.mem_univ, true_and]
  omega
theorem slot_disj {s t : ℕ} (h : s ≠ t) : Disjoint (slotR s) (slotR t) := by
  rw [Finset.disjoint_left]; intro i
  simp only [slotR, Finset.mem_filter, Finset.mem_univ, true_and]
  omega
theorem slots_univ : (Finset.univ : Finset S2x4096x512.Idx) = slotR 0 ∪ slotR 1 := by
  ext i
  have : (i 0).val < 2 := (i 0).isLt
  simp only [slotR, Finset.mem_union, Finset.mem_filter, Finset.mem_univ, true_and, true_iff]
  omega
theorem slabs_univ : (Finset.univ : Finset S8x512x1024.Idx) = (Finset.univ : Finset (Fin 8)).biUnion fun r => slabR r.val := by
  ext i
  simp only [slabR, Finset.mem_biUnion, Finset.mem_filter, Finset.mem_univ, true_and, true_iff]
  exact ⟨i 0, rfl⟩
theorem rows_univ : (Finset.univ : Finset S4096x1024.Idx) = (Finset.univ : Finset (Fin 8)).biUnion fun s => rowsR s.val := by
  ext i
  have := (i 0).isLt
  change _ < 4096 at this
  simp only [rowsR, Finset.mem_biUnion, Finset.mem_filter, Finset.mem_univ, true_and, true_iff]
  exact ⟨⟨(i 0).val / 512, by omega⟩, rfl⟩

/-- Membership in a unit-stride rectangle, a coordinate at a time. -/
theorem mem_unit {s : Shape} {off sz : Fin s.rank → ℕ} {inb : ∀ a, off a + sz a ≤ s.size a} {i : s.Idx} :
    i ∈ (Rect.unit off sz inb).set ↔ ∀ a, off a ≤ (i a).val ∧ (i a).val < off a + sz a := by
  rw [LoadRect.mem_set]
  refine forall_congr' fun a => ⟨?_, ?_⟩
  · rintro ⟨j, hj, h⟩
    change j < sz a at hj
    change (i a).val = off a + 1 * j at h
    omega
  · rintro ⟨h1, h2⟩
    refine ⟨(i a).val - off a, ?_, ?_⟩
    · change _ < sz a; omega
    · change (i a).val = off a + 1 * _; omega

theorem slot_set {o : Fin 3 → ℕ} {k : ℕ} (ho : o = ![k, 0, 0]) (inb) :
    (Rect.unit (s := S2x4096x512) o S1x4096x512.size inb).set = slotR k := by
  subst ho; ext i
  have h1 : (i 1).val < 4096 := (i 1).isLt
  have h2 : (i 2).val < 512 := (i 2).isLt
  rw [mem_unit]
  simp [slotR, Fin.forall_fin_succ, Shape.size]
  omega
theorem slab_set {o : Fin 3 → ℕ} {r : ℕ} (ho : o = ![r, 0, 0]) (inb) :
    (Rect.unit (s := S8x512x1024) o S1x512x1024.size inb).set = slabR r := by
  subst ho; ext i
  have h1 : (i 1).val < 512 := (i 1).isLt
  have h2 : (i 2).val < 1024 := (i 2).isLt
  rw [mem_unit]
  simp [slabR, Fin.forall_fin_succ, Shape.size]
  omega
theorem half_set {o : Fin 3 → ℕ} {r h : ℕ} (ho : o = ![r, 0, 512 * h]) (inb) :
    (Rect.unit (s := S8x512x1024) o S1x512x512.size inb).set = halfR r h := by
  subst ho; ext i
  have h1 : (i 1).val < 512 := (i 1).isLt
  rw [mem_unit]
  simp [halfR, Fin.forall_fin_succ, Shape.size]
  omega
theorem rows_set {o : Fin 2 → ℕ} {s : ℕ} (ho : o = ![512 * s, 0]) (inb) :
    (Rect.unit (s := S4096x1024) o S512x1024.size inb).set = rowsR s := by
  subst ho; ext i
  have h1 : (i 1).val < 1024 := (i 1).isLt
  rw [mem_unit]
  simp [rowsR, Fin.forall_fin_succ, Shape.size]
  omega
theorem tile_set {o : Fin 2 → ℕ} {s h : ℕ} (ho : o = ![512 * s, 512 * h]) (inb) :
    (Rect.unit (s := S4096x1024) o S512x512.size inb).set = tileR s h := by
  subst ho; ext i
  rw [mem_unit]
  simp [tileR, Fin.forall_fin_succ, Shape.size]
  omega

/-! ## The buffers and what they hold -/

abbrev xM : Memref sig .tc .vmem S512x4096 .f32 := Memref.whole cc0_stg0_0
abbrev oM : Memref sig .tc .vmem S4096x1024 .f32 := Memref.whole cc0_stg1_0
abbrev gM : Memref sig .tc .hbm S4096x8192 .f32 := Memref.whole main_arg1
abbrev wM : Memref sig .tc .vmem S2x4096x512 .f32 := Memref.whole cc0_scratch0
abbrev yM : Memref sig .tc .vmem S8x512x1024 .f32 := Memref.whole cc0_scratch1

variable (m : (ℓ : Loc nD τ sig) → Buf (Elt F) ℓ)

/-- Device `d`'s rows of `x`, as staged. -/
def xstg (d : Dev nD) : Vec F S512x4096 .f32 :=
  (win0_0.blk (0 : Fin 1)).view.read (Elt F) (m ((d : Thread nD τ).loc main_arg0))

/-- Device `d`'s copy of `w`. -/
def wts (d : Dev nD) : Vec F S4096x8192 .f32 := m ((d : Thread nD τ).loc main_arg1)

/-- The 512 columns of `w` from column `n` on, with a leading axis of one. -/
def wv (d : Dev nD) (n : ℕ) : Vec F S1x4096x512 .f32 := fun i =>
  wts m d (ix2 (i 1) ⟨(n + (i 2).val) % 8192, Nat.mod_lt _ (by decide)⟩)

/-- Device `d`'s rows of `x` times those columns. -/
def tile (d : Dev nD) (n : ℕ) : Vec F S512x512 .f32 := k0_pay2 (xstg m d) (wv m d n)

/-- The weight buffer, were both slots filled with the columns from `n` on. -/
def slotC (d : Dev nD) (n : ℕ) : Vec F S2x4096x512 .f32 := fun i =>
  wts m d (ix2 (i 1) ⟨(n + (i 2).val) % 8192, Nat.mod_lt _ (by decide)⟩)

set_option backward.proofsInPublic true in
/-- The outgoing buffer, filled: slab `r` is device `d`'s rows of the columns of device `d ^ r`. -/
def yC (d : Dev nD) : Vec F S8x512x1024 .f32 := fun i =>
  tile m d (1024 * (peer d ⟨(i 0).val % 8, Nat.mod_lt _ (by decide)⟩).val + 512 * ((i 2).val / 512))
    (ix2 (i 1) ⟨(i 2).val % 512, Nat.mod_lt _ (by decide)⟩)

set_option backward.proofsInPublic true in
/-- The result of device `d`: rows `512 s …` are device `s`'s. -/
def oC (d : Dev nD) : Vec F S4096x1024 .f32 := fun i =>
  tile m ⟨(i 0).val / 512 % 8, Nat.mod_lt _ (by decide)⟩ (1024 * d.val + 512 * ((i 1).val / 512))
    (ix2 ⟨(i 0).val % 512, Nat.mod_lt _ (by decide)⟩ ⟨(i 1).val % 512, Nat.mod_lt _ (by decide)⟩)

/-- The slot of the weight buffer at offsets `o`, as a copy addresses it. -/
abbrev slotM (o : Fin 3 → ℕ) (inb : ∀ a, o a + S1x4096x512.size a ≤ S2x4096x512.size a) : Memref sig .tc .vmem S4096x512 .f32 :=
  (wM.slice (Rect.unit (s := S2x4096x512) o S1x4096x512.size inb) (fun _ => rfl)).squeeze S4096x512 squeezes_S1x4096x512_S4096x512
/-- The columns of `w` at offsets `o`, as a copy addresses them. -/
abbrev colsM (o : Fin 2 → ℕ) (inb : ∀ a, o a + S4096x512.size a ≤ S4096x8192.size a) : Memref sig .tc .hbm S4096x512 .f32 :=
  gM.slice (Rect.unit (s := S4096x8192) o S4096x512.size inb) (fun _ => rfl)
/-- The slab of the outgoing buffer at offsets `o`, as a copy addresses it. -/
abbrev slabM (o : Fin 3 → ℕ) (inb : ∀ a, o a + S1x512x1024.size a ≤ S8x512x1024.size a) : Memref sig .tc .vmem S512x1024 .f32 :=
  (yM.slice (Rect.unit (s := S8x512x1024) o S1x512x1024.size inb) (fun _ => rfl)).squeeze S512x1024 squeezes_S1x512x1024_S512x1024
/-- The rows of the result at offsets `o`, as a copy addresses them. -/
abbrev rowsM (o : Fin 2 → ℕ) (inb : ∀ a, o a + S512x1024.size a ≤ S4096x1024.size a) : Memref sig .tc .vmem S512x1024 .f32 :=
  oM.slice (Rect.unit (s := S4096x1024) o S512x1024.size inb) (fun _ => rfl)

theorem slotM_set {o : Fin 3 → ℕ} {k : ℕ} (ho : o = ![k, 0, 0]) (inb) : (slotM o inb).view.set = slotR k := by
  exact (View.set_reshape _ _).trans ((View.set_slice_whole _ _).trans (slot_set ho inb))
theorem slabM_set {o : Fin 3 → ℕ} {r : ℕ} (ho : o = ![r, 0, 0]) (inb) : (slabM o inb).view.set = slabR r := by
  exact (View.set_reshape _ _).trans ((View.set_slice_whole _ _).trans (slab_set ho inb))
theorem rowsM_set {o : Fin 2 → ℕ} {s : ℕ} (ho : o = ![512 * s, 0]) (inb) : (rowsM o inb).view.set = rowsR s := by
  exact (View.set_slice_whole _ _).trans (rows_set ho inb)

/-- A copy of the columns from `n` on into slot `k` leaves that slot as `slotC` says. -/
theorem slot_written (d : Dev nD) {o : Fin 3 → ℕ} {o' : Fin 2 → ℕ} {k n : ℕ} (ho : o = ![k, 0, 0]) (ho' : o' = ![0, n]) (inb inb')
    (fd : Vec F S2x4096x512 .f32) (i : S2x4096x512.Idx) (hi : i ∈ slotR k) :
    (slotM o inb).view.write (Elt F) fd ((colsM o' inb').view.read (Elt F) (wts m d)) Finset.univ i = slotC m d n i := by
  rw [← slotM_set ho inb] at hi
  obtain ⟨x, -, rfl⟩ := Finset.mem_map.mp hi
  subst ho ho'
  have hn : n + 512 ≤ 8192 := inb' 1
  rw [View.write_emb_of_mem _ _ (Finset.mem_univ x)]
  have hx : (x 1).val < 512 := (x 1).isLt
  show wts m d _ = wts m d _
  refine congrArg (wts m d) (funext fun a => Fin.ext ?_)
  have he : (slotM ![k, 0, 0] inb).view.emb x = (Rect.unit (s := S2x4096x512) ![k, 0, 0] S1x4096x512.size inb).emb (Fin.cons ⟨0, Nat.one_pos⟩ x) :=
    congrArg (fun y => (Rect.unit (s := S2x4096x512) ![k, 0, 0] S1x4096x512.size inb).emb y) (Shape.reshapeEquiv_cons_one (d := ![4096, 512]) _ x)
  rw [he]
  match a with
  | ⟨0, _⟩ => show 0 + 1 * (x 0).val = 0 + 1 * (x 0).val; rfl
  | ⟨1, _⟩ =>
    show n + 1 * (x 1).val = (n + (0 + 1 * (x 1).val)) % 8192
    rw [Nat.mod_eq_of_lt (by omega)]; omega

/-- A load of slot `k` so filled reads the columns from `n` on. -/
theorem slot_read (d : Dev nD) {o : Fin 3 → ℕ} {k n : ℕ} (ho : o = ![k, 0, 0]) (inb) :
    wM.view.readAt (Elt F) (Rect.unit (s := S2x4096x512) o S1x4096x512.size inb).toLoadRect (slotC m d n) = wv m d n := by
  subst ho
  funext x
  have hx : (x 2).val < 512 := (x 2).isLt
  show wts m d _ = wts m d _
  refine congrArg (wts m d) (funext fun a => Fin.ext ?_)
  match a with
  | ⟨0, _⟩ => show 0 + 1 * (x 1).val = (x 1).val; omega
  | ⟨1, _⟩ => show (n + (0 + 1 * (x 2).val)) % 8192 = (n + (x 2).val) % 8192; congr 1; omega

/-- The tile of the columns from `n` on, behind a leading axis of one. -/
def tile3 (d : Dev nD) (n : ℕ) : Vec F S1x512x512 .f32 := k0_pay3 (tile m d n)

theorem tile3_apply (d : Dev nD) (n : ℕ) (x : S1x512x512.Idx) : tile3 m d n x = tile m d n (ix2 (x 1) (x 2)) := by
  unfold tile3 k0_pay3
  refine (shapeCast_addUnit_apply ![512, 512] _ _ x).trans (congrArg _ (funext fun a => ?_))
  match a with
  | ⟨0, _⟩ => rfl
  | ⟨1, _⟩ => rfl

/-- Storing the tile into its half of slab `r` leaves that half as `yC` says. -/
theorem half_written (d : Dev nD) {o : Fin 3 → ℕ} {r : Fin 8} {h n : ℕ} (ho : o = ![r.val, 0, 512 * h]) (hn : n = 1024 * (peer d r).val + 512 * h) (inb)
    (fd : Vec F S8x512x1024 .f32) (i : S8x512x1024.Idx) (hi : i ∈ halfR r.val h) :
    (yM.access (Rect.unit (s := S8x512x1024) o S1x512x512.size inb)).write (Elt F) fd (tile3 m d n) Finset.univ i = yC m d i := by
  rw [← half_set ho inb, ← Rect.map_emb_univ] at hi
  obtain ⟨x, -, rfl⟩ := Finset.mem_map.mp hi
  subst ho
  refine (View.write_emb_of_mem (v := yM.access (Rect.unit (s := S8x512x1024) ![r.val, 0, 512 * h] S1x512x512.size inb)) fd (tile3 m d n) (Finset.mem_univ x)).trans ?_
  show tile3 m d n x = _
  have hx0 : (x 0).val < 1 := (x 0).isLt
  have hx : (x 2).val < 512 := (x 2).isLt
  rw [tile3_apply]
  unfold yC
  have e0 : (⟨((Rect.unit (s := S8x512x1024) ![r.val, 0, 512 * h] S1x512x512.size inb).emb x 0).val % 8, Nat.mod_lt _ (by decide)⟩ : Fin 8) = r := by
    apply Fin.ext; show (r.val + 1 * (x 0).val) % 8 = r.val; omega
  have e1 : ((Rect.unit (s := S8x512x1024) ![r.val, 0, 512 * h] S1x512x512.size inb).emb x 2).val / 512 = h := by
    show (512 * h + 1 * (x 2).val) / 512 = h; omega
  rw [e0, e1, ← hn]
  refine congrArg (tile m d n) (funext fun a => Fin.ext ?_)
  match a with
  | ⟨0, _⟩ => show (x 1).val = 0 + 1 * (x 1).val; omega
  | ⟨1, _⟩ => show (x 2).val = (512 * h + 1 * (x 2).val) % 512; omega

/-- Storing device `d`'s own tile into its half of the own rows leaves them as `oC` says. -/
theorem own_written (d : Dev nD) {o : Fin 2 → ℕ} {h n : ℕ} (ho : o = ![512 * d.val, 512 * h]) (hn : n = 1024 * d.val + 512 * h) (inb)
    (fd : Vec F S4096x1024 .f32) (i : S4096x1024.Idx) (hi : i ∈ tileR d.val h) :
    (oM.access (Rect.unit (s := S4096x1024) o S512x512.size inb)).write (Elt F) fd (tile m d n) Finset.univ i = oC m d i := by
  rw [← tile_set ho inb, ← Rect.map_emb_univ] at hi
  obtain ⟨x, -, rfl⟩ := Finset.mem_map.mp hi
  subst ho
  refine (View.write_emb_of_mem (v := oM.access (Rect.unit (s := S4096x1024) ![512 * d.val, 512 * h] S512x512.size inb)) fd (tile m d n) (Finset.mem_univ x)).trans ?_
  show tile m d n x = _
  have hd : d.val < 8 := d.isLt
  have hx0 : (x 0).val < 512 := (x 0).isLt
  have hx1 : (x 1).val < 512 := (x 1).isLt
  unfold oC
  have e0 : (⟨((Rect.unit (s := S4096x1024) ![512 * d.val, 512 * h] S512x512.size inb).emb x 0).val / 512 % 8, Nat.mod_lt _ (by decide)⟩ : Dev nD) = d := by
    apply Fin.ext; show (512 * d.val + 1 * (x 0).val) / 512 % 8 = d.val; omega
  have e1 : ((Rect.unit (s := S4096x1024) ![512 * d.val, 512 * h] S512x512.size inb).emb x 1).val / 512 = h := by
    show (512 * h + 1 * (x 1).val) / 512 = h; omega
  rw [e0, e1, ← hn]
  refine congrArg (tile m d n) (funext fun a => Fin.ext ?_)
  match a with
  | ⟨0, _⟩ => show (x 0).val = (512 * d.val + 1 * (x 0).val) % 512; omega
  | ⟨1, _⟩ => show (x 1).val = (512 * h + 1 * (x 1).val) % 512; omega

/-- The copy of slab `r` into rows `512 d …` of device `d ^ r`'s result leaves those rows as `oC` says. -/
theorem rows_written (d : Dev nD) {o : Fin 3 → ℕ} {o' : Fin 2 → ℕ} {r : Fin 8} (ho : o = ![r.val, 0, 0]) (ho' : o' = ![512 * d.val, 0]) (inb inb')
    (fd : Vec F S4096x1024 .f32) (i : S4096x1024.Idx) (hi : i ∈ rowsR d.val) :
    (rowsM o' inb').view.write (Elt F) fd ((slabM o inb).view.read (Elt F) (yC m d)) Finset.univ i = oC m (peer d r) i := by
  rw [← rowsM_set ho' inb'] at hi
  obtain ⟨x, -, rfl⟩ := Finset.mem_map.mp hi
  subst ho ho'
  rw [View.write_emb_of_mem _ _ (Finset.mem_univ x)]
  have hd : d.val < 8 := d.isLt
  have hx0 : (x 0).val < 512 := (x 0).isLt
  have hx1 : (x 1).val < 1024 := (x 1).isLt
  show yC m d ((slabM ![r.val, 0, 0] inb).view.emb x) = oC m (peer d r) ((rowsM ![512 * d.val, 0] inb').view.emb x)
  have he : (slabM ![r.val, 0, 0] inb).view.emb x = (Rect.unit (s := S8x512x1024) ![r.val, 0, 0] S1x512x1024.size inb).emb (Fin.cons ⟨0, Nat.one_pos⟩ x) :=
    congrArg (fun y => (Rect.unit (s := S8x512x1024) ![r.val, 0, 0] S1x512x1024.size inb).emb y) (Shape.reshapeEquiv_cons_one (d := ![512, 1024]) _ x)
  rw [he]
  unfold yC oC
  have a0 : (⟨((Rect.unit (s := S8x512x1024) ![r.val, 0, 0] S1x512x1024.size inb).emb (Fin.cons ⟨0, Nat.one_pos⟩ x) 0).val % 8, Nat.mod_lt _ (by decide)⟩ : Fin 8) = r := by
    apply Fin.ext; show (r.val + 1 * 0) % 8 = r.val; omega
  have a1 : ((Rect.unit (s := S8x512x1024) ![r.val, 0, 0] S1x512x1024.size inb).emb (Fin.cons ⟨0, Nat.one_pos⟩ x) 2).val = (x 1).val := by
    show 0 + 1 * (x 1).val = (x 1).val; omega
  have a2 : ((Rect.unit (s := S8x512x1024) ![r.val, 0, 0] S1x512x1024.size inb).emb (Fin.cons ⟨0, Nat.one_pos⟩ x) 1).val = (x 0).val := by
    show 0 + 1 * (x 0).val = (x 0).val; omega
  have b0 : (⟨((rowsM ![512 * d.val, 0] inb').view.emb x 0).val / 512 % 8, Nat.mod_lt _ (by decide)⟩ : Dev nD) = d := by
    apply Fin.ext; show (512 * d.val + 1 * (x 0).val) / 512 % 8 = d.val; omega
  have b1 : ((rowsM ![512 * d.val, 0] inb').view.emb x 1).val = (x 1).val := by
    show 0 + 1 * (x 1).val = (x 1).val; omega
  have b2 : ((rowsM ![512 * d.val, 0] inb').view.emb x 0).val % 512 = (x 0).val := by
    show (512 * d.val + 1 * (x 0).val) % 512 = (x 0).val; omega
  rw [a0, b0]
  have key : ∀ (n n' : ℕ) (j j' : S512x512.Idx), n = n' → j = j' → tile m d n j = tile m d n' j' := by
    intro n n' j j' h h'; rw [h, h']
  refine key _ _ _ _ (by rw [a1, b1]) (funext fun a => Fin.ext ?_)
  match a with
  | ⟨0, _⟩ => show _ = ((rowsM ![512 * d.val, 0] inb').view.emb x 0).val % 512; rw [b2]; exact a2
  | ⟨1, _⟩ => show _ % 512 = _ % 512; rw [a1, b1]

end Cert.GemmProof
end
-- ==== Proof.Protocol.lean ====
/-
Who signals whom, and what a signal hands over.

Every device first tells its seven peers that it has entered (one unit on the peer's barrier semaphore; with the unit
goes the permission to write the peer's row block of this device's result), and waits for seven units itself.  It then
holds, for each peer, that peer's result rows it is to write.  A finished slab is copied there: the copy's receive
semaphore on the peer hands the peer the rows filled, its send semaphore hands the sender its slab back.

Stated here: the semaphore cells, the schedule of what each hands over (the rounds library), what a device owes at
launch and in which order waits may be made, and what a device starts from.
-/
module

public import proofs.«01_k».proof.Proof.Contents
public import Idealize.ShloMosaic.Lib.Pipeline.Kit
public import Idealize.ShloMosaic.Lib.Tactic

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ## The resource algebra: the launch's, the schedule's (duties numbered below eight), the local copies' -/

abbrev UB : Type := URounds (GSem nD τ sig) (Fin 8)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The schedule's part of the resources: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' part. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The barrier semaphore; the weight copies', the send and the receive semaphores. -/
abbrev barS : Sem sig := (SemArray.scalar (sig.barrier 0 rfl) : Sems sig S_).sem
def wSem (k : Fin 2) : DmaSem sig := ⟨2 + k.val, by have := k.isLt; show _ < 20; omega⟩
def sendSem (r : Fin 8) : DmaSem sig := ⟨4 + r.val, by have := r.isLt; show _ < 20; omega⟩
def recvSem (s : Fin 8) : DmaSem sig := ⟨12 + s.val, by have := s.isLt; show _ < 20; omega⟩

abbrev barCell (c : Dev nD) : GSem nD τ sig := ((c : Thread nD τ), .reg barS)
abbrev sendCell (c : Dev nD) (r : Fin 8) : GSem nD τ sig := ((c : Thread nD τ), .dma (sendSem r))
abbrev recvCell (c : Dev nD) (s : Fin 8) : GSem nD τ sig := ((c : Thread nD τ), .dma (recvSem s))

/-- The seventeen semaphores the schedule covers: the barrier's, the eight send and the eight receive semaphores. -/
def csem (j : Fin 17) : SemLoc sig := if j = 0 then .reg barS else .dma ⟨3 + j.val, by have := j.isLt; show _ < 20; omega⟩
abbrev kcell (ck : Dev nD × Fin 17) : GSem nD τ sig := ((ck.1 : Thread nD τ), csem ck.2)
def sendJ (r : Fin 8) : Fin 17 := ⟨1 + r.val, by omega⟩
def recvJ (s : Fin 8) : Fin 17 := ⟨9 + s.val, by omega⟩

theorem csem_bar : csem 0 = .reg barS := rfl
theorem csem_send (r : Fin 8) : csem (sendJ r) = .dma (sendSem r) := by revert r; decide
theorem csem_recv (s : Fin 8) : csem (recvJ s) = .dma (recvSem s) := by revert s; decide

/-- What a slab's copy is counted as on a DMA semaphore. -/
def N : ℕ := (rowsM ![0, 0] (by decide)).view.dmaCredit
theorem N_pos : 0 < N := View.dmaCredit_pos _ (by decide)
theorem N_rows (o : Fin 2 → ℕ) (inb) : (rowsM o inb).view.dmaCredit = N := rfl
theorem N_slab (o : Fin 3 → ℕ) (inb) : (slabM o inb).view.dmaCredit = N := rfl

/-! ## The buffers held -/

abbrev oLoc (d : Dev nD) : Loc nD τ sig := (d : Thread nD τ).loc cc0_stg1_0
abbrev yLoc (d : Dev nD) : Loc nD τ sig := (d : Thread nD τ).loc cc0_scratch1
abbrev wLoc (d : Dev nD) : Loc nD τ sig := (d : Thread nD τ).loc cc0_scratch0
abbrev gLoc (d : Dev nD) : Loc nD τ sig := (d : Thread nD τ).loc main_arg1
abbrev xLoc (d : Dev nD) : Loc nD τ sig := (d : Thread nD τ).loc cc0_stg0_0

/-- Rows `512 s …` of device `d`'s result, at contents `f`. -/
def oRows (d : Dev nD) (s : ℕ) (f : Vec F S4096x1024 .f32) : sProp 𝕄 := oLoc d ↦[rowsR s]{fullShare} f
/-- The same rows at some contents. -/
def oFree (d : Dev nD) (s : ℕ) : sProp 𝕄 := iprop(∃ f : Vec F S4096x1024 .f32, oRows d s f)
/-- Slab `r` of device `d`'s outgoing buffer, at contents `f`. -/
def ySlab (d : Dev nD) (r : ℕ) (f : Vec F S8x512x1024 .f32) : sProp 𝕄 := yLoc d ↦[slabR r]{fullShare} f

instance oRows_storable (d : Dev nD) (s : ℕ) (f) : BI.Storable (upEmb : UEmb _ 𝕄) (oRows (F := F) d s f) := by unfold oRows; infer_instance
instance oFree_storable (d : Dev nD) (s : ℕ) : BI.Storable (upEmb : UEmb _ 𝕄) (oFree (F := F) d s) := by unfold oFree; infer_instance
instance ySlab_storable (d : Dev nD) (r : ℕ) (f) : BI.Storable (upEmb : UEmb _ 𝕄) (ySlab (F := F) d r f) := by unfold ySlab; infer_instance

/-! ## The schedule -/

/-- The numbers below eight but zero: the distances to a device's peers. -/
abbrev dists : Finset (Fin 8) := Finset.univ.erase 0

/-- The duties of a cell's one round. -/
def duties₀ (g : GSem nD τ sig) : Finset (Fin 8) := match g.2 with
  | .reg _ => dists
  | .dma q => if (4 < q.val ∧ q.val < 12) ∨ (12 ≤ q.val ∧ q.val ≠ 12 + g.1.1.val) then {0} else ∅

/-- One round. The barrier cell of `d` has a duty per peer, one unit each: the peer at distance `r` hands over rows
    `512 d …` of its result. The send cell `r ≠ 0` has one duty, the copy's credit: slab `r` back, filled. The receive
    cell `s ≠ d` has one duty, the credit of device `s`'s copy: rows `512 s …` of `d`'s result, filled. -/
def Rd : Rounds.Schedule (GSem nD τ sig) (Fin 8) 𝕄 where
  duties g r := if r = 0 ∧ g.1.2 = .tc then duties₀ g else ∅
  unitless _ := False
  amount g _ _ := match g.2 with
    | .reg _ => 1
    | .dma _ => N
  payload g _ d := match g.2 with
    | .reg _ => oFree (peer g.1.1 d) g.1.1.val
    | .dma q => if q.val < 12 then ySlab g.1.1 (q.val - 4) (yC m g.1.1) else oRows g.1.1 (q.val - 12) (oC m g.1.1)
  amount_pos g _ _ _ := by
    rcases g with ⟨t, s | q⟩
    · exact Nat.one_pos
    · exact N_pos

instance Rd_payload_storable (g : GSem nD τ sig) (r : ℕ) (d : Fin 8) :
    BI.Storable (upEmb : UEmb _ 𝕄) ((Rd (F := F) m).payload g r d) := by
  rcases g with ⟨t, s | q⟩
  · show BI.Storable upEmb (oFree (peer t.1 d) t.1.val); infer_instance
  · show BI.Storable upEmb (if q.val < 12 then ySlab t.1 (q.val - 4) (yC m t.1) else oRows t.1 (q.val - 12) (oC m t.1))
    split <;> infer_instance

section Sched
variable (c : Dev nD)

theorem duties_tc (sm : SemLoc sig) : (Rd (F := F) m).duties ((c : Thread nD τ), sm) 0 = duties₀ ((c : Thread nD τ), sm) := by
  dsimp only [Rd]; exact if_pos ⟨rfl, rfl⟩
theorem duties_bar : (Rd (F := F) m).duties (barCell c) 0 = dists := duties_tc m c _
theorem duties_send {r : Fin 8} (hr : r ≠ 0) : (Rd (F := F) m).duties (sendCell c r) 0 = {0} := by
  have h : r.val ≠ 0 := fun h => hr (Fin.ext h)
  have h' : 4 < 4 + r.val ∧ 4 + r.val < 12 := by omega
  exact (duties_tc m c _).trans (if_pos (Or.inl h'))
theorem duties_recv {s : Fin 8} (hs : s ≠ num c) : (Rd (F := F) m).duties (recvCell c s) 0 = {0} := by
  have h : s.val ≠ c.val := fun h => hs (Fin.ext h)
  have h' : 12 ≤ 12 + s.val ∧ 12 + s.val ≠ 12 + c.val := by omega
  exact (duties_tc m c _).trans (if_pos (Or.inr h'))
theorem duties_later (g : GSem nD τ sig) : ∀ r, 1 ≤ r → (Rd (F := F) m).duties g r = ∅ :=
  fun r hr => by dsimp only [Rd]; exact if_neg fun h => by omega
theorem duties_send0 (r : ℕ) : (Rd (F := F) m).duties (sendCell c 0) r = ∅ := by
  rcases Nat.eq_zero_or_pos r with rfl | hr
  · have h : ¬ ((4 < 4 + 0 ∧ 4 + 0 < 12) ∨ (12 ≤ 4 + 0 ∧ 4 + 0 ≠ 12 + c.val)) := by omega
    exact (duties_tc m c _).trans (if_neg (t := ({0} : Finset (Fin 8))) h)
  · exact duties_later m _ r hr
theorem duties_recv0 (r : ℕ) : (Rd (F := F) m).duties (recvCell c (num c)) r = ∅ := by
  rcases Nat.eq_zero_or_pos r with rfl | hr
  · have h : ¬ ((4 < 12 + c.val ∧ 12 + c.val < 12) ∨ (12 ≤ 12 + c.val ∧ 12 + c.val ≠ 12 + c.val)) := by omega
    exact (duties_tc m c _).trans (if_neg (t := ({0} : Finset (Fin 8))) h)
  · exact duties_later m _ r hr

theorem amount_bar (d : Fin 8) : (Rd (F := F) m).amount (barCell c) 0 d = 1 := rfl
theorem amount_send (r d : Fin 8) : (Rd (F := F) m).amount (sendCell c r) 0 d = N := rfl
theorem amount_recv (s d : Fin 8) : (Rd (F := F) m).amount (recvCell c s) 0 d = N := rfl

theorem expect_bar : (Rd (F := F) m).expect (barCell c) 0 = 7 := by
  unfold Schedule.expect Schedule.amountOf
  rw [duties_bar, Finset.sum_congr rfl fun d _ => amount_bar m c d]; decide
theorem expect_send {r : Fin 8} (hr : r ≠ 0) : (Rd (F := F) m).expect (sendCell c r) 0 = N := by
  unfold Schedule.expect Schedule.amountOf; rw [duties_send m c hr, Finset.sum_singleton, amount_send]
theorem expect_recv {s : Fin 8} (hs : s ≠ num c) : (Rd (F := F) m).expect (recvCell c s) 0 = N := by
  unfold Schedule.expect Schedule.amountOf; rw [duties_recv m c hs, Finset.sum_singleton, amount_recv]

theorem payload_bar (d : Fin 8) : (Rd (F := F) m).payload (barCell c) 0 d = oFree (peer c d) c.val := rfl
theorem payload_send (r d : Fin 8) : (Rd (F := F) m).payload (sendCell c r) 0 d = ySlab c r.val (yC m c) := by
  have h : (4 + r.val) - 4 = r.val := by omega
  refine (if_pos (show 4 + r.val < 12 by omega)).trans ?_
  show ySlab c (4 + r.val - 4) (yC m c) = _
  rw [h]
theorem payload_recv (s d : Fin 8) : (Rd (F := F) m).payload (recvCell c s) 0 d = oRows c s.val (oC m c) := by
  have h : (12 + s.val) - 12 = s.val := by omega
  refine (if_neg (show ¬ 12 + s.val < 12 by omega)).trans ?_
  show oRows c (12 + s.val - 12) (oC m c) = _
  rw [h]

/-- The barrier's round taken whole: from each peer, this device's rows of its result. -/
theorem rest_bar : bigSep ((Rd (F := F) m).duties (barCell c) 0 \ ∅) (fun d => (Rd (F := F) m).payload (barCell c) 0 d)
    = bigSep dists fun r => oFree (peer c r) c.val := by
  rw [Finset.sdiff_empty, duties_bar]; rfl
theorem rest_send {r : Fin 8} (hr : r ≠ 0) :
    bigSep ((Rd (F := F) m).duties (sendCell c r) 0 \ ∅) (fun d => (Rd (F := F) m).payload (sendCell c r) 0 d) = ySlab c r.val (yC m c) := by
  rw [Finset.sdiff_empty, duties_send m c hr, bigSep_singleton, payload_send]
theorem rest_recv {s : Fin 8} (hs : s ≠ num c) :
    bigSep ((Rd (F := F) m).duties (recvCell c s) 0 \ ∅) (fun d => (Rd (F := F) m).payload (recvCell c s) 0 d) = oRows c s.val (oC m c) := by
  rw [Finset.sdiff_empty, duties_recv m c hs, bigSep_singleton, payload_recv]

end Sched

/-! ## What a device owes; the order of waits -/

/-- The order in which the peers are signalled, served and waited for. -/
abbrev order : List (Fin 8) := [1, 3, 4, 2, 5, 7, 6]

/-- The copies still to be made, to the peers at the distances listed. -/
def Odue (c : Dev nD) : List (Fin 8) → CellTallies nD τ sig Unit
  | [] => 0
  | r :: l => Odue c l + tallyAt (recvCell (peer c r) (num c)) () N
/-- All copies and the signals still to be sent, to the peers at the distances listed. -/
def Bdue (c : Dev nD) : List (Fin 8) → CellTallies nD τ sig Unit
  | [] => Odue c order
  | r :: l => Bdue c l + tallyAt (barCell (peer c r)) () 1

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Odue_pos {c : Dev nD} {l : List (Fin 8)} {g : GSem nD τ sig} {u : Unit} (h : 0 < Odue c l g u) :
    ∃ r ∈ l, g = recvCell (peer c r) (num c) := by
  induction l with
  | nil => exact absurd h (Nat.lt_irrefl 0)
  | cons r l ih =>
    unfold Odue at h
    rw [Pi.add_apply, Finsupp.add_apply, tallyAt_apply] at h
    by_cases hg : g = recvCell (peer c r) (num c)
    · exact ⟨r, List.mem_cons_self, hg⟩
    · rw [if_neg (fun h' => hg h'.1)] at h
      obtain ⟨r', hr', e⟩ := ih h
      exact ⟨r', List.mem_cons_of_mem _ hr', e⟩
theorem Bdue_pos {c : Dev nD} {l : List (Fin 8)} {g : GSem nD τ sig} {u : Unit} (h : 0 < Bdue c l g u) :
    (∃ r ∈ l, g = barCell (peer c r)) ∨ ∃ r ∈ order, g = recvCell (peer c r) (num c) := by
  induction l with
  | nil => exact .inr (Odue_pos h)
  | cons r l ih =>
    unfold Bdue at h
    rw [Pi.add_apply, Finsupp.add_apply, tallyAt_apply] at h
    by_cases hg : g = barCell (peer c r)
    · exact .inl ⟨r, List.mem_cons_self, hg⟩
    · rw [if_neg (fun h' => hg h'.1)] at h
      rcases ih h with ⟨r', hr', e⟩ | e
      · exact .inl ⟨r', List.mem_cons_of_mem _ hr', e⟩
      · exact .inr e

theorem lv_bar (c : Dev nD) (u : Unit) : lv (barCell c) u = 1 := rfl
theorem lv_recv (c : Dev nD) (s : Fin 8) (u : Unit) : lv (recvCell c s) u = 2 := if_pos (show 12 ≤ 12 + s.val by omega)
theorem lv_low (c : Dev nD) {q : DmaSem sig} (hq : q.val < 12) (u : Unit) : lv ((c : Thread nD τ), .dma q) u = 0 := if_neg (by show ¬ 12 ≤ q.val; omega)

/-- A wait on a semaphore below the receive semaphores may be made whatever copies are still due, and at launch. -/
theorem mayWait_low (c : Dev nD) {q : DmaSem sig} (hq : q.val < 12) (O : CellTallies nD τ sig Unit)
    (hO : O = 0 ∨ (∃ l, O = Odue c l) ∨ ∃ l, O = Bdue c l) :
    (levAts L lv : sProp 𝕄) ⊢ MayWait (c : Thread nD τ) (.dma q) () O := by
  have key : ∀ g u, 0 < O g u → u ∈ L g ∧ 0 < lv g u := by
    intro g u h
    rcases hO with rfl | ⟨l, rfl⟩ | ⟨l, rfl⟩
    · exact absurd h (Nat.lt_irrefl 0)
    · obtain ⟨r, -, rfl⟩ := Odue_pos h
      exact ⟨Finset.mem_singleton_self _, by rw [lv_recv]; decide⟩
    · rcases Bdue_pos h with ⟨r, -, rfl⟩ | ⟨r, -, rfl⟩
      · exact ⟨Finset.mem_singleton_self _, by rw [lv_bar]; decide⟩
      · exact ⟨Finset.mem_singleton_self _, by rw [lv_recv]; decide⟩
  exact MayOwe.of_cut (L := L) (lev := lv) 0 (fun p hp => by rw [Finset.mem_singleton.mp hp, L_tc]; exact Finset.mem_singleton_self _)
    (fun g u hg => (key g u hg).1)
    (fun p hp => by rw [Finset.mem_singleton.mp hp]; exact (lv_low c hq ()).le)
    (fun g u hg => (key g u hg).2)

/-- The barrier wait is made when only copies are due: their receive cells lie above the barrier cells. -/
theorem mayWait_bar (c : Dev nD) (l : List (Fin 8)) :
    (levAts L lv : sProp 𝕄) ⊢ MayWait (c : Thread nD τ) (.reg barS) () (Odue c l) :=
  MayOwe.of_cut (L := L) (lev := lv) 1 (fun p hp => by rw [Finset.mem_singleton.mp hp, L_tc]; exact Finset.mem_singleton_self _)
    (fun g u hg => by obtain ⟨r, -, rfl⟩ := Odue_pos hg; exact Finset.mem_singleton_self _)
    (fun p hp => by rw [Finset.mem_singleton.mp hp]; exact (lv_bar c ()).le)
    (fun g u hg => by obtain ⟨r, -, rfl⟩ := Odue_pos hg; rw [lv_recv]; decide)

/-! ## What a device starts from -/

/-- Every scheduled cell of every device: its invariant, under the names `K`, and that its round 0 is open. -/
def records (K : Dev nD × Fin 17 → ℕ) : sProp 𝕄 :=
  bigSep Finset.univ fun ck : Dev nD × Fin 17 => iprop(cellInv ER (Rd m) (K ck) (kcell ck) ∗ reached ER (kcell ck) 0)
instance records_persistent (K : Dev nD × Fin 17 → ℕ) : BI.Persistent (records (F := F) m K) := by unfold records; infer_instance

theorem records_at (K : Dev nD × Fin 17 → ℕ) (c : Dev nD) (j : Fin 17) :
    (records m K : sProp 𝕄) ⊢ iprop(cellInv ER (Rd m) (K (c, j)) ((c : Thread nD τ), csem j) ∗ reached ER ((c : Thread nD τ), csem j) 0) := by
  unfold records
  rw [bigSep_univ_at (fun ck : Dev nD × Fin 17 => iprop(cellInv ER (Rd m) (K ck) (kcell ck) ∗ reached ER (kcell ck) 0)) (c, j)]
  iintro ⟨H, -⟩
  iexact H
theorem records_bar (K : Dev nD × Fin 17 → ℕ) (c : Dev nD) :
    (records m K : sProp 𝕄) ⊢ iprop(cellInv ER (Rd m) (K (c, 0)) (barCell c) ∗ reached ER (barCell c) 0) := records_at m K c 0
theorem records_send (K : Dev nD × Fin 17 → ℕ) (c : Dev nD) (r : Fin 8) :
    (records m K : sProp 𝕄) ⊢ iprop(cellInv ER (Rd m) (K (c, sendJ r)) (sendCell c r) ∗ reached ER (sendCell c r) 0) := by
  have h := records_at m K c (sendJ r)
  rwa [csem_send] at h
theorem records_recv (K : Dev nD × Fin 17 → ℕ) (c : Dev nD) (s : Fin 8) :
    (records m K : sProp 𝕄) ⊢ iprop(cellInv ER (Rd m) (K (c, recvJ s)) (recvCell c s) ∗ reached ER (recvCell c s) 0) := by
  have h := records_at m K c (recvJ s)
  rwa [csem_recv] at h

/-- What device `c` needs for the peer at distance `r`: the right to pay that peer's barrier cell and receive cell and its
    own send cell, its positions at its send and receive cells for that peer, and the receive cell's credit. -/
def gear (c : Dev nD) (r : Fin 8) : sProp 𝕄 :=
  iprop(dutyTok ER (barCell (peer c r)) 0 r ∗ dutyTok ER (recvCell (peer c r) (num c)) 0 (0 : Fin 8) ∗ dutyTok ER (sendCell c r) 0 (0 : Fin 8)
    ∗ atPos ER (sendCell c r) 0 ∅ 0 ∗ atPos ER (recvCell c (num (peer c r))) 0 ∅ 0
    ∗ cred (tallyAt (recvCell c (num (peer c r))) () N))

/-- Device `c`'s share of the schedule at launch. -/
def ghost (K : Dev nD × Fin 17 → ℕ) (c : Dev nD) : sProp 𝕄 :=
  iprop(records m K ∗ levAts L lv ∗ atPos ER (barCell c) 0 ∅ 0 ∗ cred (tallyAt (barCell c) () 7)
    ∗ atPos ER (sendCell c 0) 0 ∅ 0 ∗ atPos ER (recvCell c (num c)) 0 ∅ 0
    ∗ bigSep dists (gear c) ∗ semVal ((c : Thread nD τ), .dma (wSem 0)) 0 ∗ semVal ((c : Thread nD τ), .dma (wSem 1)) 0)

end Cert.GemmProof
end
-- ==== Proof.Steps.lean ====
/-
The kernel's operations, a rule each, in this kernel's own terms.

A weight copy is started into one slot of the weight buffer while the other slot is read; a tile is the product of the
device's rows of `x` and one slot; a finished slab is sent to the peer it is for.  Each rule below says what one of
these steps takes and gives back, whatever program follows it.
-/
module

public import proofs.«01_k».proof.Proof.Protocol

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The index chains in closed form -/

theorem dev1_eq (d : Dev nD) : (⟨k0_dev1 d, k0_dev1_lt d⟩ : Dev nD) = peer d 1 := by revert d; decide +kernel
theorem dev2_eq (d : Dev nD) : (⟨k0_dev2 d, k0_dev2_lt d⟩ : Dev nD) = peer d 3 := by revert d; decide +kernel
theorem dev3_eq (d : Dev nD) : (⟨k0_dev3 d, k0_dev3_lt d⟩ : Dev nD) = peer d 4 := by revert d; decide +kernel
theorem dev4_eq (d : Dev nD) : (⟨k0_dev4 d, k0_dev4_lt d⟩ : Dev nD) = peer d 2 := by revert d; decide +kernel
theorem dev5_eq (d : Dev nD) : (⟨k0_dev5 d, k0_dev5_lt d⟩ : Dev nD) = peer d 5 := by revert d; decide +kernel
theorem dev6_eq (d : Dev nD) : (⟨k0_dev6 d, k0_dev6_lt d⟩ : Dev nD) = peer d 7 := by revert d; decide +kernel
theorem dev7_eq (d : Dev nD) : (⟨k0_dev7 d, k0_dev7_lt d⟩ : Dev nD) = peer d 6 := by revert d; decide +kernel
theorem dev8_eq (d : Dev nD) : (⟨k0_dev8 d, k0_dev8_lt d⟩ : Dev nD) = peer d 1 := by revert d; decide +kernel
theorem dev9_eq (d : Dev nD) : (⟨k0_dev9 d, k0_dev9_lt d⟩ : Dev nD) = peer d 3 := by revert d; decide +kernel
theorem dev10_eq (d : Dev nD) : (⟨k0_dev10 d, k0_dev10_lt d⟩ : Dev nD) = peer d 4 := by revert d; decide +kernel
theorem dev11_eq (d : Dev nD) : (⟨k0_dev11 d, k0_dev11_lt d⟩ : Dev nD) = peer d 2 := by revert d; decide +kernel
theorem dev12_eq (d : Dev nD) : (⟨k0_dev12 d, k0_dev12_lt d⟩ : Dev nD) = peer d 5 := by revert d; decide +kernel
theorem dev13_eq (d : Dev nD) : (⟨k0_dev13 d, k0_dev13_lt d⟩ : Dev nD) = peer d 7 := by revert d; decide +kernel
theorem dev14_eq (d : Dev nD) : (⟨k0_dev14 d, k0_dev14_lt d⟩ : Dev nD) = peer d 6 := by revert d; decide +kernel

/-- The column of `w` at which the tile for the peer at distance `r`, half `h`, begins. -/
abbrev col (d : Dev nD) (r : Fin 8) (h : ℕ) : ℕ := 1024 * (peer d r).val + 512 * h

theorem off1_eq (d : Dev nD) (r : Fin 8) (h : Fin 2) :
    k0_off1 d (BitVec.ofNat 32 r.val) (BitVec.ofNat 32 (512 * h.val)) = ![0, col d r h.val] := by
  revert d r h; decide +kernel
theorem off6_eq (d : Dev nD) (r : Fin 8) : k0_off6 d (BitVec.ofNat 32 r.val) = ![(peer d r).val] := by revert d r; decide +kernel
theorem off7_eq (d : Dev nD) (r : Fin 8) : k0_off7 d (BitVec.ofNat 32 r.val) = ![512 * (peer d r).val, 0] := by revert d r; decide +kernel

theorem wsem_eq {o : Fin 1 → ℕ} (k : Fin 2) (ho : o = ![k.val]) (inb) :
    ((cc0_scratch2.slice (Rect.unit (s := S2) o S1.size inb)).squeeze S_ squeezes_S1_S_).sem = wSem k := by
  subst ho; revert k; decide +kernel
theorem ssem_eq {o : Fin 1 → ℕ} (r : Fin 8) (ho : o = ![r.val]) (inb) :
    ((cc0_scratch3.slice (Rect.unit (s := S8) o S1.size inb)).squeeze S_ squeezes_S1_S_).sem = sendSem r := by
  subst ho; revert r; decide +kernel
theorem rsem_eq {o : Fin 1 → ℕ} (s : Fin 8) (ho : o = ![s.val]) (inb) :
    ((cc0_scratch4.slice (Rect.unit (s := S8) o S1.size inb)).squeeze S_ squeezes_S1_S_).sem = recvSem s := by
  subst ho; revert s; decide +kernel

/-! ## What is held between steps -/

/-- The core owes `O`; what it has waited for is not recorded. -/
def oweB (c : Dev nD) (O : CellTallies nD τ sig Unit) : sProp 𝕄 := iprop(∃ W, owes (c : Thread nD τ) O W)
/-- The device's copy of `w`, whole. -/
def gAll (c : Dev nD) : sProp 𝕄 := gLoc c ↦{fullShare} wts m c
/-- The device's rows of `x`, staged. -/
def xAll (c : Dev nD) : sProp 𝕄 := xLoc c ↦{fullShare} xstg m c
/-- Slot `k` of the weight buffer, at contents `f`, and at some contents. -/
def wSlot (c : Dev nD) (k : ℕ) (f : Vec F S2x4096x512 .f32) : sProp 𝕄 := wLoc c ↦[slotR k]{fullShare} f
def wFree (c : Dev nD) (k : ℕ) : sProp 𝕄 := iprop(∃ f : Vec F S2x4096x512 .f32, wSlot c k f)
/-- A half of a slab at some contents. -/
def yFree (c : Dev nD) (r h : ℕ) : sProp 𝕄 := iprop(∃ f : Vec F S8x512x1024 .f32, yLoc c ↦[halfR r h]{fullShare} f)
/-- A half of a slab, filled. -/
def yHalf (c : Dev nD) (r h : ℕ) : sProp 𝕄 := yLoc c ↦[halfR r h]{fullShare} yC m c
/-- A half of the device's own rows of its result at some contents, and filled. -/
def ownFree (c : Dev nD) (h : ℕ) : sProp 𝕄 := iprop(∃ f : Vec F S4096x1024 .f32, oLoc c ↦[tileR c.val h]{fullShare} f)
def ownHalf (c : Dev nD) (h : ℕ) : sProp 𝕄 := oLoc c ↦[tileR c.val h]{fullShare} oC m c

/-- What a weight copy is counted as. -/
def NW : ℕ := (slotM ![0, 0, 0] (by decide)).view.dmaCredit
theorem NW_pos : 0 < NW := View.dmaCredit_pos _ (by decide)

/-- A copy of the columns of `w` from `n` on into slot `k` is under way. -/
def flying (c : Dev nD) (k : Fin 2) (n : ℕ) : sProp 𝕄 :=
  iprop(∃ I : Finset S4096x8192.Idx, Flight EC (c : Thread nD τ) (.dma (wSem k)) () NW iprop(wSlot c k.val (slotC m c n) ∗ (gLoc c ↦[I]{fullShare} wts m c))
    ∗ (gLoc c ↦[Finset.univ \ I]{fullShare} wts m c))

/-- A weight copy into slot `k` under way, slot `k'` free. -/
def run (c : Dev nD) (k k' : Fin 2) (n : ℕ) : sProp 𝕄 :=
  iprop(flying m c k n ∗ wFree c k'.val ∗ semVal ((c : Thread nD τ), .dma (wSem k')) 0 ∗ xAll m c)

section Rules
variable (c : Dev nD)

/-- Start a weight copy. -/
theorem wp_start (k : Fin 2) {o : Fin 3 → ℕ} {o' : Fin 2 → ℕ} {inb inb'} {n : ℕ} (ho : o = ![k.val, 0, 0]) (ho' : o' = ![0, n])
    {sm : DmaSem sig} (hsm : sm = wSem k) {hsrc : (colsM o' inb').view.WordExact} {hdst : (slotM o inb).view.WordExact}
    {hsem : DmaTarget.Typed (nD := nD) (p := .tc) .hbm (.dma sm) (.here (slotM o inb))} {α : Type} {Q : α → sProp 𝕄} {cont : PUnit → Prog (TpuEff nD τ sig (Elt F) Λ₀ .tc) α} :
    iprop(gAll m c ∗ wFree c k.val ∗ semVal ((c : Thread nD τ), .dma (wSem k)) 0)
      ⊢ iprop((flying m c k n -∗ wp frame (wpE (defs₀ (F := F)) 𝒱₀ (c : Thread nD τ) none) Set.univ (cont ⟨⟩) Q)
        -∗ wp frame (wpE (defs₀ (F := F)) 𝒱₀ (c : Thread nD τ) none) Set.univ
            (.op (.enqueueDma (colsM o' inb') (.here (slotM o inb)) (.dma sm) hsrc hdst hsem) cont) Q) := by
  subst hsm
  unfold gAll wFree wSlot
  iintro ⟨Hg, ⟨%f, Hw⟩, Hv⟩ Hk
  ihave Hg := (pointsTo_split_subset (Finset.subset_univ (colsM o' inb').view.set)).1 $$ Hg
  icases Hg with ⟨Hg, Hrest⟩
  iapply (wp_dmaLocal EC 𝒱₀ (c : Thread nD τ) none (src := colsM o' inb') (dst := slotM o inb) (Sd := slotR k.val) () NW rfl NW_pos
    (slotM_set ho inb).subset) $$ [Hg Hw Hv]
  · isplitl [Hg]; · iexact Hg
    isplitl [Hw]; · iexact Hw
    iexact Hv
  iintro Hf
  iapply Hk
  unfold flying
  iexists (colsM o' inb').view.set
  isplitl [Hf]
  · iapply (Flight_mono EC (c : Thread nD τ) ?_) $$ Hf
    refine sep_mono_left ?_
    unfold wSlot
    exact Entails.of_eq (pointsTo_congr fun i hi => slot_written m c ho ho' inb inb' f i hi)
  · iexact Hrest

/-- Wait for a weight copy. -/
theorem wp_landed (k : Fin 2) {o : Fin 3 → ℕ} {o' : Fin 2 → ℕ} {inb inb'} {n : ℕ}
    {sm : DmaSem sig} (hsm : sm = wSem k) {O : CellTallies nD τ sig Unit} (hO : O = 0 ∨ (∃ l, O = Odue c l) ∨ ∃ l, O = Bdue c l)
    {hsrc : (colsM o' inb').view.WordExact} {hdst : (slotM o inb).view.WordExact}
    {α : Type} {Q : α → sProp 𝕄} {cont : PUnit → Prog (TpuEff nD τ sig (Elt F) Λ₀ .tc) α} :
    iprop(levAts L lv ∗ flying m c k n ∗ oweB c O)
      ⊢ iprop((iprop(wSlot c k.val (slotC m c n) ∗ gAll m c ∗ semVal ((c : Thread nD τ), .dma (wSem k)) 0 ∗ oweB c O)
            -∗ wp frame (wpE (defs₀ (F := F)) 𝒱₀ (c : Thread nD τ) none) Set.univ (cont ⟨⟩) Q)
        -∗ wp frame (wpE (defs₀ (F := F)) 𝒱₀ (c : Thread nD τ) none) Set.univ
            (.op (.waitDma2 sm (colsM o' inb') (slotM o inb) hsrc hdst) cont) Q) := by
  subst hsm
  unfold flying oweB gAll
  iintro ⟨#Hlev, ⟨%I, Hf, Hrest⟩, ⟨%W, HO⟩⟩ Hk
  iapply (wp_waitLocalO EC 𝒱₀ (c : Thread nD τ) none (dstw := slotM o inb) () rfl (O := O) (W := W)) $$ [Hf HO]
  · isplitl [Hf]; · iexact Hf
    isplitl [HO]; · iexact HO
    iapply (mayWait_low c (show (2 + k.val) < 12 by omega) O hO); iexact Hlev
  iintro ⟨⟨Hw, Hg⟩, Hv, HO⟩
  iapply Hk
  isplitl [Hw]; · iexact Hw
  isplitl [Hg Hrest]
  · iapply (pointsTo_split_subset (Finset.subset_univ I)).2
    isplitl [Hg]; · iexact Hg
    iexact Hrest
  isplitl [Hv]; · iexact Hv
  iexists _; iexact HO

abbrev rX : Rect S512x4096 := Rect.unit (s := S512x4096) ![0, 0] S512x4096.size inb_S512x4096_S512x4096_0_0

theorem read_rows (f : Vec F S512x4096 .f32) : (xM : Memref sig .tc .vmem S512x4096 .f32).view.readAt (Elt F) rX.toLoadRect f = f :=
  Memref.readAt_unit_zero (Elt F) cc0_stg0_0 (funext fun a => by fin_cases a <;> rfl) _ f

/-- Read the rows of `x` and a filled slot. -/
theorem wp_read (k : Fin 2) {o : Fin 3 → ℕ} {inb} {n : ℕ} (ho : o = ![k.val, 0, 0])
    {hx : (xM : Memref sig .tc .vmem S512x4096 .f32).view.LoadsAt rX.toLoadRect}
    {hw : (wM : Memref sig .tc .vmem S2x4096x512 .f32).view.LoadsAt (Rect.unit (s := S2x4096x512) o S1x4096x512.size inb).toLoadRect}
    {α : Type} {Q : α → sProp 𝕄} {cont : Vec F S512x4096 .f32 → Vec F S1x4096x512 .f32 → Prog (TpuEff nD τ sig (Elt F) Λ₀ .tc) α} :
    iprop(xAll m c ∗ wSlot c k.val (slotC m c n))
      ⊢ iprop((iprop(xAll m c ∗ wFree c k.val)
            -∗ wp frame (wpE (defs₀ (F := F)) 𝒱₀ (c : Thread nD τ) none) Set.univ (cont (xstg m c) (wv m c n)) Q)
        -∗ wp frame (wpE (defs₀ (F := F)) 𝒱₀ (c : Thread nD τ) none) Set.univ
            (.op (.load xM rX.toLoadRect hx) fun x => .op (.load wM (Rect.unit (s := S2x4096x512) o S1x4096x512.size inb).toLoadRect hw) fun w => cont x w) Q) := by
  unfold xAll wFree wSlot
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := wM) (r := (Rect.unit (s := S2x4096x512) o S1x4096x512.size inb).toLoadRect)
    (S := slotR k.val) (f := slotC m c n) ?_) $$ Hw
  · exact (Finset.map_refl).subset.trans (slot_set ho inb).subset
  iintro Hw
  rw [slot_read m c ho inb, read_rows]
  iapply Hk
  isplitl [Hx]; · iexact Hx
  iexists _; iexact Hw

/-- Wait for the weight copy under way, start the next into the other slot, read. -/
theorem wp_turn (k k' : Fin 2) {o₁ o₂ o₃ : Fin 3 → ℕ} {p₁ p₂ : Fin 2 → ℕ} {inb₁ inb₂ inb₃ inp₁ inp₂} {n n' : ℕ}
    (h₂ : o₂ = ![k'.val, 0, 0]) (h₃ : o₃ = ![k.val, 0, 0]) (hp₂ : p₂ = ![0, n'])
    {sm sm' : DmaSem sig} (hsm : sm = wSem k) (hsm' : sm' = wSem k') {O : CellTallies nD τ sig Unit} (hO : O = 0 ∨ (∃ l, O = Odue c l) ∨ ∃ l, O = Bdue c l)
    {hsrc : (colsM p₁ inp₁).view.WordExact} {hdst : (slotM o₁ inb₁).view.WordExact}
    {hsrc' : (colsM p₂ inp₂).view.WordExact} {hdst' : (slotM o₂ inb₂).view.WordExact}
    {hsem : DmaTarget.Typed (nD := nD) (p := .tc) .hbm (.dma sm') (.here (slotM o₂ inb₂))}
    {hx : (xM : Memref sig .tc .vmem S512x4096 .f32).view.LoadsAt rX.toLoadRect}
    {hw : (wM : Memref sig .tc .vmem S2x4096x512 .f32).view.LoadsAt (Rect.unit (s := S2x4096x512) o₃ S1x4096x512.size inb₃).toLoadRect}
    {α : Type} {Q : α → sProp 𝕄} {cont : Vec F S512x4096 .f32 → Vec F S1x4096x512 .f32 → Prog (TpuEff nD τ sig (Elt F) Λ₀ .tc) α} :
    iprop(levAts L lv ∗ run m c k k' n ∗ oweB c O)
      ⊢ iprop((iprop(run m c k' k n' ∗ oweB c O)
            -∗ wp frame (wpE (defs₀ (F := F)) 𝒱₀ (c : Thread nD τ) none) Set.univ (cont (xstg m c) (wv m c n)) Q)
        -∗ wp frame (wpE (defs₀ (F := F)) 𝒱₀ (c : Thread nD τ) none) Set.univ
            (.op (.waitDma2 sm (colsM p₁ inp₁) (slotM o₁ inb₁) hsrc hdst) fun _ =>
              .op (.enqueueDma (colsM p₂ inp₂) (.here (slotM o₂ inb₂)) (.dma sm') hsrc' hdst' hsem) fun _ =>
              .op (.load xM rX.toLoadRect hx) fun x =>
              .op (.load wM (Rect.unit (s := S2x4096x512) o₃ S1x4096x512.size inb₃).toLoadRect hw) fun w => cont x w) Q) := by
  unfold run
  iintro ⟨#Hlev, ⟨Hf, Hw', Hv', Hx⟩, HO⟩ Hk
  iapply (wp_landed m c k hsm hO) $$ [Hf HO]
  · isplitr; · iexact Hlev
    isplitl [Hf]; · iexact Hf
    iexact HO
  iintro ⟨Hw, Hg, Hv, HO⟩
  iapply (wp_start m c k' h₂ hp₂ hsm') $$ [Hg Hw' Hv']
  · isplitl [Hg]; · iexact Hg
    isplitl [Hw']; · iexact Hw'
    iexact Hv'
  iintro Hf
  iapply (wp_read m c k h₃) $$ [Hx Hw]
  · isplitl [Hx]; · iexact Hx
    iexact Hw
  iintro ⟨Hx, Hw⟩
  iapply Hk
  isplitr [HO]
  · isplitl [Hf]; · iexact Hf
    isplitl [Hw]; · iexact Hw
    isplitl [Hv]; · iexact Hv
    iexact Hx
  iexact HO

/-- What is left of `run` once the last weight copy has landed and been read. -/
def idle (k k' : Fin 2) : sProp 𝕄 :=
  iprop(gAll m c ∗ wFree c k.val ∗ wFree c k'.val ∗ semVal ((c : Thread nD τ), .dma (wSem k)) 0
    ∗ semVal ((c : Thread nD τ), .dma (wSem k')) 0 ∗ xAll m c)

/-- Wait for the last weight copy and read. -/
theorem wp_last (k k' : Fin 2) {o₁ o₃ : Fin 3 → ℕ} {p₁ : Fin 2 → ℕ} {inb₁ inb₃ inp₁} {n : ℕ} (h₃ : o₃ = ![k.val, 0, 0])
    {sm : DmaSem sig} (hsm : sm = wSem k) {O : CellTallies nD τ sig Unit} (hO : O = 0 ∨ (∃ l, O = Odue c l) ∨ ∃ l, O = Bdue c l)
    {hsrc : (colsM p₁ inp₁).view.WordExact} {hdst : (slotM o₁ inb₁).view.WordExact}
    {hx : (xM : Memref sig .tc .vmem S512x4096 .f32).view.LoadsAt rX.toLoadRect}
    {hw : (wM : Memref sig .tc .vmem S2x4096x512 .f32).view.LoadsAt (Rect.unit (s := S2x4096x512) o₃ S1x4096x512.size inb₃).toLoadRect}
    {α : Type} {Q : α → sProp 𝕄} {cont : Vec F S512x4096 .f32 → Vec F S1x4096x512 .f32 → Prog (TpuEff nD τ sig (Elt F) Λ₀ .tc) α} :
    iprop(levAts L lv ∗ run m c k k' n ∗ oweB c O)
      ⊢ iprop((iprop(idle m c k k' ∗ oweB c O)
            -∗ wp frame (wpE (defs₀ (F := F)) 𝒱₀ (c : Thread nD τ) none) Set.univ (cont (xstg m c) (wv m c n)) Q)
        -∗ wp frame (wpE (defs₀ (F := F)) 𝒱₀ (c : Thread nD τ) none) Set.univ
            (.op (.waitDma2 sm (colsM p₁ inp₁) (slotM o₁ inb₁) hsrc hdst) fun _ =>
              .op (.load xM rX.toLoadRect hx) fun x =>
              .op (.load wM (Rect.unit (s := S2x4096x512) o₃ S1x4096x512.size inb₃).toLoadRect hw) fun w => cont x w) Q) := by
  unfold run
  iintro ⟨#Hlev, ⟨Hf, Hw', Hv', Hx⟩, HO⟩ Hk
  iapply (wp_landed m c k hsm hO) $$ [Hf HO]
  · isplitr; · iexact Hlev
    isplitl [Hf]; · iexact Hf
    iexact HO
  iintro ⟨Hw, Hg, Hv, HO⟩
  iapply (wp_read m c k h₃) $$ [Hx Hw]
  · isplitl [Hx]; · iexact Hx
    iexact Hw
  iintro ⟨Hx, Hw⟩
  iapply Hk
  isplitr [HO]
  · unfold idle
    isplitl [Hg]; · iexact Hg
    isplitl [Hw]; · iexact Hw
    isplitl [Hw']; · iexact Hw'
    isplitl [Hv]; · iexact Hv
    isplitl [Hv']; · iexact Hv'
    iexact Hx
  iexact HO

theorem half_on {o : Fin 3 → ℕ} {r h : ℕ} (ho : o = ![r, 0, 512 * h]) (inb) :
    ((yM : Memref sig .tc .vmem S8x512x1024 .f32).access (Rect.unit (s := S8x512x1024) o S1x512x512.size inb)).setOn Finset.univ = halfR r h := by
  rw [View.setOn_univ]
  exact (View.set_slice_whole _ _).trans (half_set ho inb)
theorem tile_on {o : Fin 2 → ℕ} {s h : ℕ} (ho : o = ![512 * s, 512 * h]) (inb) :
    ((oM : Memref sig .tc .vmem S4096x1024 .f32).access (Rect.unit (s := S4096x1024) o S512x512.size inb)).setOn Finset.univ = tileR s h := by
  rw [View.setOn_univ]
  exact (View.set_slice_whole _ _).trans (tile_set ho inb)

theorem half_entails (r : Fin 8) (h : ℕ) {o : Fin 3 → ℕ} {n : ℕ} (ho : o = ![r.val, 0, 512 * h]) (hn : n = col c r h) (inb) (f : Vec F S8x512x1024 .f32) :
    ((((yM : Memref sig .tc .vmem S8x512x1024 .f32).access (Rect.unit (s := S8x512x1024) o S1x512x512.size inb)).loc (c : Thread nD τ)
      ↦[halfR r.val h]{fullShare} ((yM : Memref sig .tc .vmem S8x512x1024 .f32).access (Rect.unit (s := S8x512x1024) o S1x512x512.size inb)).write (Elt F) f (tile3 m c n) Finset.univ) : sProp 𝕄)
      ⊢ yHalf m c r.val h := by
  unfold yHalf
  exact Entails.of_eq (pointsTo_congr fun i hi => half_written m c ho hn inb f i hi)
theorem own_entails (h : ℕ) {o : Fin 2 → ℕ} {n : ℕ} (ho : o = ![512 * c.val, 512 * h]) (hn : n = 1024 * c.val + 512 * h) (inb) (f : Vec F S4096x1024 .f32) :
    ((((oM : Memref sig .tc .vmem S4096x1024 .f32).access (Rect.unit (s := S4096x1024) o S512x512.size inb)).loc (c : Thread nD τ)
      ↦[tileR c.val h]{fullShare} ((oM : Memref sig .tc .vmem S4096x1024 .f32).access (Rect.unit (s := S4096x1024) o S512x512.size inb)).write (Elt F) f (tile m c n) Finset.univ) : sProp 𝕄)
      ⊢ ownHalf m c h := by
  unfold ownHalf
  exact Entails.of_eq (pointsTo_congr fun i hi => own_written m c ho hn inb f i hi)

/-- The two halves of a slab, put together. -/
theorem slab_join (r : ℕ) : (iprop(yHalf m c r 0 ∗ yHalf m c r 1) : sProp 𝕄) ⊢ yLoc c ↦[slabR r]{fullShare} yC m c := by
  unfold yHalf
  rw [slab_eq]
  exact (pointsTo_union (half_disj r)).2

/-- Store a tile into its half of a slab (the kernel reads the half first and drops what it read). -/
theorem wp_put (r : Fin 8) (h : ℕ) {o : Fin 3 → ℕ} {inb} {n : ℕ} (ho : o = ![r.val, 0, 512 * h]) (hn : n = col c r h)
    {pay : Vec F S1x512x512 .f32} (hpay : pay = tile3 m c n)
    {hl : (yM : Memref sig .tc .vmem S8x512x1024 .f32).view.LoadsAt (Rect.unit (s := S8x512x1024) o S1x512x512.size inb).toLoadRect}
    {hs : ((yM : Memref sig .tc .vmem S8x512x1024 .f32).access (Rect.unit (s := S8x512x1024) o S1x512x512.size inb)).Stores Finset.univ}
    {hs' : (Finset.univ : Finset (Rect.unit (s := S8x512x1024) o S1x512x512.size inb).shape.Idx) = Finset.univ ∨ ∀ a, (Rect.unit (s := S8x512x1024) o S1x512x512.size inb).stride a = 1}
    {α : Type} {Q : α → sProp 𝕄} {cont : PUnit → Prog (TpuEff nD τ sig (Elt F) Λ₀ .tc) α} :
    (yFree c r.val h : sProp 𝕄)
      ⊢ iprop((yHalf m c r.val h -∗ wp frame (wpE (defs₀ (F := F)) 𝒱₀ (c : Thread nD τ) none) Set.univ (cont ⟨⟩) Q)
        -∗ wp frame (wpE (defs₀ (F := F)) 𝒱₀ (c : Thread nD τ) none) Set.univ
            (.op (.load yM (Rect.unit (s := S8x512x1024) o S1x512x512.size inb).toLoadRect hl) fun _ =>
              .op (.store yM (Rect.unit (s := S8x512x1024) o S1x512x512.size inb) pay Finset.univ hs hs') cont) Q) := by
  subst hpay
  unfold yFree
  iintro ⟨%f, Hy⟩ Hk
  iapply (wp_load 𝒱₀ (c : Thread nD τ) none Set.univ (m := yM) (r := (Rect.unit (s := S8x512x1024) o S1x512x512.size inb).toLoadRect)
    (S := halfR r.val h) (f := f) ((Finset.map_refl).subset.trans (half_set ho inb).subset)) $$ Hy
  iintro Hy
  iapply (wp_store 𝒱₀ (c : Thread nD τ) none Set.univ (m := yM) (r := Rect.unit (s := S8x512x1024) o S1x512x512.size inb) (Mk := Finset.univ)
    (S := halfR r.val h) (f := f) (half_on ho inb).subset) $$ Hy
  iintro Hy
  iapply Hk
  iapply (half_entails m c r h ho hn inb f) $$ Hy

/-- Store a tile of the device's own rows of its result (read first, as above). -/
theorem wp_putOwn (h : ℕ) {o : Fin 2 → ℕ} {inb} {n : ℕ} (ho : o = ![512 * c.val, 512 * h]) (hn : n = col c 0 h)
    {pay : Vec F S512x512 .f32} (hpay : pay = tile m c n)
    {hl : (oM : Memref sig .tc .vmem S4096x1024 .f32).view.LoadsAt (Rect.unit (s := S4096x1024) o S512x512.size inb).toLoadRect}
    {hs : ((oM : Memref sig .tc .vmem S4096x1024 .f32).access (Rect.unit (s := S4096x1024) o S512x512.size inb)).Stores Finset.univ}
    {hs' : (Finset.univ : Finset (Rect.unit (s := S4096x1024) o S512x512.size inb).shape.Idx) = Finset.univ ∨ ∀ a, (Rect.unit (s := S4096x1024) o S512x512.size inb).stride a = 1}
    {α : Type} {Q : α → sProp 𝕄} {cont : PUnit → Prog (TpuEff nD τ sig (Elt F) Λ₀ .tc) α} :
    (ownFree c h : sProp 𝕄)
      ⊢ iprop((ownHalf m c h -∗ wp frame (wpE (defs₀ (F := F)) 𝒱₀ (c : Thread nD τ) none) Set.univ (cont ⟨⟩) Q)
        -∗ wp frame (wpE (defs₀ (F := F)) 𝒱₀ (c : Thread nD τ) none) Set.univ
            (.op (.load oM (Rect.unit (s := S4096x1024) o S512x512.size inb).toLoadRect hl) fun _ =>
              .op (.store oM (Rect.unit (s := S4096x1024) o S512x512.size inb) pay Finset.univ hs hs') cont) Q) := by
  subst hpay
  have hn' : n = 1024 * c.val + 512 * h := by rw [hn, col, peer_zero]
  unfold ownFree
  iintro ⟨%f, Hy⟩ Hk
  iapply (wp_load 𝒱₀ (c : Thread nD τ) none Set.univ (m := oM) (r := (Rect.unit (s := S4096x1024) o S512x512.size inb).toLoadRect)
    (S := tileR c.val h) (f := f) ((Finset.map_refl).subset.trans (tile_set ho inb).subset)) $$ Hy
  iintro Hy
  iapply (wp_store 𝒱₀ (c : Thread nD τ) none Set.univ (m := oM) (r := Rect.unit (s := S4096x1024) o S512x512.size inb) (Mk := Finset.univ)
    (S := tileR c.val h) (f := f) (tile_on ho inb).subset) $$ Hy
  iintro Hy
  iapply Hk
  iapply (own_entails m c h ho hn' inb f) $$ Hy

variable (K : Dev nD × Fin 17 → ℕ)

/-- Tell the peer at distance `r` that this device has entered: that peer's rows of this device's result go with it. -/
theorem wp_sig (r : Fin 8) (hr : r ≠ 0) {n : Dev nD} (hn : n = peer c r) {l : List (Fin 8)} {k' : ℕ} (hk' : 1 = k')
    {α : Type} {Q : α → sProp 𝕄} {cont : PUnit → Prog (TpuEff nD τ sig (Elt F) Λ₀ .tc) α} :
    iprop(records m K ∗ oweB c (Bdue c (r :: l)) ∗ dutyTok ER (barCell (peer c r)) 0 r ∗ oFree c (peer c r).val)
      ⊢ iprop((oweB c (Bdue c l) -∗ wp frame (wpE (defs₀ (F := F)) 𝒱₀ (c : Thread nD τ) none) Set.univ (cont ⟨⟩) Q)
        -∗ wp frame (wpE (defs₀ (F := F)) 𝒱₀ (c : Thread nD τ) none) Set.univ (.op (.semSignal (n : Thread nD τ) barS k') cont) Q) := by
  subst hn hk'
  unfold oweB
  iintro ⟨#HR, ⟨%W, HO⟩, Ht, Hp⟩ Hk
  ihave ⟨#HI, #Hr⟩ := (records_bar m K (peer c r)) $$ HR
  iapply (Rounds.wp_signal 𝒱₀ ER (Rd m) (c : Thread nD τ) none (dst := (peer c r : Thread nD τ)) (κ := K (peer c r, 0)) (d := r)
    (by rw [duties_bar]; exact Finset.mem_erase.mpr ⟨hr, Finset.mem_univ _⟩) (amount_bar m (peer c r) r) () (Bdue c l) rfl (W := W)) $$ [HO Ht Hp]
  · isplitr; · iexact HI
    isplitl [HO]; · iexact HO
    isplitl [Ht]; · iexact Ht
    isplitl [Hp]
    · rw [payload_bar, peer_peer]; iexact Hp
    iexact Hr
  iintro HO
  iapply Hk
  iexists _; iexact HO

/-- Wait for all seven peers: their rows of this device come with it. -/
theorem wp_bar {l : List (Fin 8)} {k' : ℕ} (hk' : 7 = k')
    {α : Type} {Q : α → sProp 𝕄} {cont : PUnit → Prog (TpuEff nD τ sig (Elt F) Λ₀ .tc) α} :
    iprop(records m K ∗ levAts L lv ∗ oweB c (Odue c l) ∗ cred (tallyAt (barCell c) () 7) ∗ atPos ER (barCell c) 0 ∅ 0)
      ⊢ iprop((iprop(oweB c (Odue c l) ∗ atPos ER (barCell c) 1 ∅ 0 ∗ bigSep dists fun r => oFree (peer c r) c.val)
            -∗ wp frame (wpE (defs₀ (F := F)) 𝒱₀ (c : Thread nD τ) none) Set.univ (cont ⟨⟩) Q)
        -∗ wp frame (wpE (defs₀ (F := F)) 𝒱₀ (c : Thread nD τ) none) Set.univ (.op (.semWait barS k') cont) Q) := by
  subst hk'
  unfold oweB
  iintro ⟨#HR, #Hlev, ⟨%W, HO⟩, Hc, Hat⟩ Hk
  ihave ⟨#HI, -⟩ := (records_bar m K c) $$ HR
  iapply (Rounds.wp_wait_rest_token 𝒱₀ ER (Rd m) (c : Thread nD τ) none (κ := K (c, 0))
    (wpE_semWait_eq 𝒱₀ (c : Thread nD τ) none Set.univ) (Set.mem_univ _) () (O := Odue c l) (W := W) (R := 0) (m := 0) (T := ∅)
    (by rw [expect_bar])) $$ [Hc HO Hat]
  · isplitr; · iexact HI
    isplitl [Hc]; · iexact Hc
    isplitl [HO]; · iexact HO
    isplitr; · iapply (mayWait_bar c l); iexact Hlev
    iexact Hat
  iintro ⟨HO, Hat, -, Hpay⟩
  iapply Hk
  isplitl [HO]; · iexists _; iexact HO
  isplitl [Hat]; · iexact Hat
  iapply (Entails.of_eq (rest_bar m c)) $$ Hpay

theorem pay_send (r : Fin 8) {o : Fin 3 → ℕ} {inb} (ho : o = ![r.val, 0, 0]) :
    ((slabM o inb).view.loc (c : Thread nD τ) ↦[(slabM o inb).view.set]{fullShare} yC m c : sProp 𝕄) ⊢ (Rd m).payload (sendCell c r) 0 0 := by
  rw [payload_send, slabM_set ho inb]
  exact BI.Entails.refl _
theorem pay_recv (r : Fin 8) {o : Fin 3 → ℕ} {o' : Fin 2 → ℕ} {inb inb'} (ho : o = ![r.val, 0, 0]) (ho' : o' = ![512 * c.val, 0]) (f : Vec F S4096x1024 .f32) :
    ((rowsM o' inb').view.loc (peer c r : Thread nD τ) ↦[(rowsM o' inb').view.set]{fullShare}
      ((rowsM o' inb').view.write (Elt F) f ((slabM o inb).view.read (Elt F) (yC m c)) Finset.univ) : sProp 𝕄)
      ⊢ (Rd m).payload (recvCell (peer c r) (num c)) 0 0 := by
  rw [payload_recv, rowsM_set ho' inb']
  exact Entails.of_eq (pointsTo_congr fun i hi => rows_written m c ho ho' inb inb' f i hi)

/-- Send the filled slab `r` to the peer at distance `r`. -/
theorem wp_send (r : Fin 8) (hr : r ≠ 0) {n : Dev nD} (hn : n = peer c r) {l : List (Fin 8)}
    {o : Fin 3 → ℕ} {o' : Fin 2 → ℕ} {inb inb'} (ho : o = ![r.val, 0, 0]) (ho' : o' = ![512 * c.val, 0])
    {sS sR : DmaSem sig} (hsS : sS = sendSem r) (hsR : sR = recvSem (num c))
    {hsc : (rowsM o' inb').view.ref.isScScratch = false} {hsrc : (slabM o inb).view.WordExact} {hdst : (rowsM o' inb').view.WordExact}
    {hsem : DmaTarget.Typed .vmem (.dma sR) (.remote (n : Thread nD τ) (rowsM o' inb') (.dma sS) hsc)}
    {α : Type} {Q : α → sProp 𝕄} {cont : PUnit → Prog (TpuEff nD τ sig (Elt F) Λ₀ .tc) α} :
    iprop(records m K ∗ yHalf m c r.val 0 ∗ yHalf m c r.val 1 ∗ oFree (peer c r) c.val ∗ oweB c (Odue c (r :: l))
        ∗ dutyTok ER (sendCell c r) 0 (0 : Fin 8) ∗ dutyTok ER (recvCell (peer c r) (num c)) 0 (0 : Fin 8))
      ⊢ iprop((iprop(cred (tallyAt (sendCell c r) () N) ∗ oweB c (Odue c l)) -∗ wp frame (wpE (defs₀ (F := F)) 𝒱₀ (c : Thread nD τ) none) Set.univ (cont ⟨⟩) Q)
        -∗ wp frame (wpE (defs₀ (F := F)) 𝒱₀ (c : Thread nD τ) none) Set.univ
            (.op (.enqueueDma (slabM o inb) (.remote (n : Thread nD τ) (rowsM o' inb') (.dma sS) hsc) (.dma sR) hsrc hdst hsem) cont) Q) := by
  subst hn hsS hsR
  have hne : num c ≠ num (peer c r) := fun h => peer_ne c hr h.symm
  unfold oweB oFree oRows
  iintro ⟨#HR, Hy0, Hy1, ⟨%f, Hd⟩, ⟨%W, HO⟩, Ht, Ht'⟩ Hk
  ihave ⟨#HI, #Hr⟩ := (records_send m K c r) $$ HR
  ihave ⟨#HI', #Hr'⟩ := (records_recv m K (peer c r) (num c)) $$ HR
  ihave Hs := (slab_join m c r.val) $$ [Hy0 Hy1]
  · isplitl [Hy0]; · iexact Hy0
    iexact Hy1
  iapply (Rounds.wp_send_pointsTo 𝒱₀ ER (Rd m) (c : Thread nD τ) none (c' := (peer c r : Thread nD τ)) (src := slabM o inb) (dst := rowsM o' inb')
    (κ₁ := K (c, sendJ r)) (κ₂ := K (peer c r, recvJ (num c)))
    (r₁ := 0) (r₂ := 0) (d₁ := 0) (d₂ := 0) (fs := yC m c) (fd := f)
    (by rw [duties_send m c hr]; exact Finset.mem_singleton_self _) (by rw [duties_recv m (peer c r) hne]; exact Finset.mem_singleton_self _)
    () () N rfl (amount_send m c r 0) (amount_recv m (peer c r) (num c) 0) (Odue c l) rfl (W := W)
    (pay_send m c r ho) (pay_recv m c r ho ho' f))
    $$ [Hs Hd HO Ht Ht']
  · isplitr; · iexact HI
    isplitr; · iexact HI'
    isplitl [Hs]; · rw [slabM_set ho inb]; iexact Hs
    isplitl [Hd]; · rw [rowsM_set ho' inb']; iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-- Wait for the copy to the peer at distance `r` to have left: the slab is the device's again. -/
theorem wp_sent (r : Fin 8) (hr : r ≠ 0) {sm : DmaSem sig} (hsm : sm = sendSem r)
    {s' : Shape} {sp' : Space} {e' : EltTy} {src : Memref sig .tc sp' s' e'} {o : Fin 3 → ℕ} {inb}
    {hsrc : src.view.WordExact} {hdst : (slabM o inb).view.WordExact}
    {α : Type} {Q : α → sProp 𝕄} {cont : PUnit → Prog (TpuEff nD τ sig (Elt F) Λ₀ .tc) α} :
    iprop(records m K ∗ cred (tallyAt (sendCell c r) () N) ∗ oweB c 0 ∗ atPos ER (sendCell c r) 0 ∅ 0)
      ⊢ iprop((iprop(oweB c 0 ∗ atPos ER (sendCell c r) 1 ∅ 0 ∗ ySlab c r.val (yC m c))
            -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 sm src (slabM o inb) hsrc hdst) cont) Q) := by
  subst hsm
  unfold oweB
  iintro ⟨#HR, Hc, ⟨%W, HO⟩, Hat⟩ Hk
  ihave ⟨#HI, -⟩ := (records_send m K c r) $$ HR
  iapply (Rounds.wp_wait_rest_token 𝒱₀ ER (Rd m) (c : Thread nD τ) none (κ := K (c, sendJ r))
    (wpE_waitDma2_eq 𝒱₀ (c : Thread nD τ) none Set.univ) (Set.mem_univ _) () (O := 0) (W := W) (R := 0) (m := 0) (T := ∅)
    (by rw [Nat.zero_add, expect_send m c hr, N_slab])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_send m c hr)) $$ Hpay

/-- Wait for the copy from the peer at distance `r`: its rows of this device's result, filled. -/
theorem wp_got (r : Fin 8) (hr : r ≠ 0) {sm : DmaSem sig} (hsm : sm = recvSem (num (peer c r)))
    {s' : Shape} {sp' : Space} {e' : EltTy} {src : Memref sig .tc sp' s' e'} {o : Fin 2 → ℕ} {inb}
    {hsrc : src.view.WordExact} {hdst : (rowsM o inb).view.WordExact}
    {α : Type} {Q : α → sProp 𝕄} {cont : PUnit → Prog (TpuEff nD τ sig (Elt F) Λ₀ .tc) α} :
    iprop(records m K ∗ cred (tallyAt (recvCell c (num (peer c r))) () N) ∗ oweB c 0 ∗ atPos ER (recvCell c (num (peer c r))) 0 ∅ 0)
      ⊢ iprop((iprop(oweB c 0 ∗ atPos ER (recvCell c (num (peer c r))) 1 ∅ 0 ∗ oRows c (peer c r).val (oC m c))
            -∗ wp frame (wpE (defs₀ (F := F)) 𝒱₀ (c : Thread nD τ) none) Set.univ (cont ⟨⟩) Q)
        -∗ wp frame (wpE (defs₀ (F := F)) 𝒱₀ (c : Thread nD τ) none) Set.univ (.op (.waitDma2 sm src (rowsM o inb) hsrc hdst) cont) Q) := by
  subst hsm
  have hne : num (peer c r) ≠ num c := peer_ne c hr
  unfold oweB
  iintro ⟨#HR, Hc, ⟨%W, HO⟩, Hat⟩ Hk
  ihave ⟨#HI, -⟩ := (records_recv m K c (num (peer c r))) $$ HR
  iapply (Rounds.wp_wait_rest_token 𝒱₀ ER (Rd m) (c : Thread nD τ) none (κ := K (c, recvJ (num (peer c r))))
    (wpE_waitDma2_eq 𝒱₀ (c : Thread nD τ) none Set.univ) (Set.mem_univ _) () (O := 0) (W := W) (R := 0) (m := 0) (T := ∅)
    (by rw [Nat.zero_add, expect_recv m c hne, N_rows])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_recv m c hne)) $$ Hpay

end Rules

end Cert.GemmProof
end
-- ==== Proof.Segments.lean ====
/-
The kernel's run of one peer: two tiles, the slab sent; and, at the end, the two waits for that peer.
-/
module

public import proofs.«01_k».proof.Proof.Steps

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

section Bundles
variable (c : Dev nD) (r : Fin 8)

/-- A slab of the outgoing buffer at some contents. -/
def yAny : sProp 𝕄 := iprop(∃ f : Vec F S8x512x1024 .f32, ySlab c r.val f)
/-- What signalling the peer at distance `r` takes. -/
def toSignal : sProp 𝕄 := iprop(dutyTok ER (barCell (peer c r)) 0 r ∗ oFree c (peer c r).val)
/-- What serving that peer takes: a slab to fill, the peer's rows to write, the right to make the copy. -/
def toServe : sProp 𝕄 :=
  iprop(yAny c r ∗ dutyTok ER (recvCell (peer c r) (num c)) 0 (0 : Fin 8) ∗ dutyTok ER (sendCell c r) 0 (0 : Fin 8) ∗ oFree (peer c r) c.val)
/-- What the two waits for that peer take, but the send semaphore's credit. -/
def toWait : sProp 𝕄 :=
  iprop(atPos ER (sendCell c r) 0 ∅ 0 ∗ atPos ER (recvCell c (num (peer c r))) 0 ∅ 0 ∗ cred (tallyAt (recvCell c (num (peer c r))) () N))
/-- What is left once both waits are made: two counters at zero, the slab, the peer's rows filled. -/
def waited : sProp 𝕄 :=
  iprop(semVal (sendCell c r) 0 ∗ semVal (recvCell c (num (peer c r))) 0 ∗ yAny c r ∗ oRows c (peer c r).val (oC m c))

end Bundles

section Rules
variable (c : Dev nD) (K : Dev nD × Fin 17 → ℕ)

theorem yAny_halves (r : Fin 8) : (yAny c r : sProp 𝕄) ⊢ iprop(yFree c r.val 0 ∗ yFree c r.val 1) := by
  unfold yAny ySlab yFree
  rw [slab_eq]
  iintro ⟨%f, Hy⟩
  ihave Hy := (pointsTo_union (half_disj r.val)).1 $$ Hy
  icases Hy with ⟨Hy0, Hy1⟩
  isplitl [Hy0]
  · iexists f; iexact Hy0
  · iexists f; iexact Hy1

/-- Serve the peer at distance `r`: both tiles of its slab computed and stored, the slab sent; meanwhile the weights of the
    next tile are on their way. -/
theorem wp_serve (r : Fin 8) (hr : r ≠ 0) {n : Dev nD} (hn : n = peer c r) {l : List (Fin 8)} {n' : ℕ}
    {oa ob oc od oe og : Fin 3 → ℕ} {pa pb pc pd : Fin 2 → ℕ} {ia ib ic id ie ig ja jb jc jd}
    {u v z : Fin 3 → ℕ} {iu iv iz} {p : Fin 2 → ℕ} {ip}
    (hb : ob = ![1, 0, 0]) (hc : oc = ![0, 0, 0]) (he : oe = ![0, 0, 0]) (hg : og = ![1, 0, 0])
    (hpb : pb = ![0, col c r 1]) (hpd : pd = ![0, n'])
    (hu : u = ![r.val, 0, 512 * 0]) (hv : v = ![r.val, 0, 512 * 1]) (hz : z = ![r.val, 0, 0]) (hp : p = ![512 * c.val, 0])
    {sa sb sd se sS sR : DmaSem sig} (hsa : sa = wSem 0) (hsb : sb = wSem 1) (hsd : sd = wSem 1) (hse : se = wSem 0)
    (hsS : sS = sendSem r) (hsR : sR = recvSem (num c))
    {pay₁ pay₂ : Vec F S512x4096 .f32 → Vec F S1x4096x512 .f32 → Vec F S1x512x512 .f32}
    (hpay₁ : ∀ x w, pay₁ x w = k0_pay3 (k0_pay2 x w)) (hpay₂ : ∀ x w, pay₂ x w = k0_pay3 (k0_pay2 x w))
    {e1 : (colsM pa ja).view.WordExact} {e2 : (slotM oa ia).view.WordExact} {e3 : (colsM pb jb).view.WordExact} {e4 : (slotM ob ib).view.WordExact}
    {e5 : DmaTarget.Typed (nD := nD) (p := .tc) .hbm (.dma sb) (.here (slotM ob ib))}
    {e6 : (xM : Memref sig .tc .vmem S512x4096 .f32).view.LoadsAt rX.toLoadRect}
    {e7 : (wM : Memref sig .tc .vmem S2x4096x512 .f32).view.LoadsAt (Rect.unit (s := S2x4096x512) oc S1x4096x512.size ic).toLoadRect}
    {e8 : (yM : Memref sig .tc .vmem S8x512x1024 .f32).view.LoadsAt (Rect.unit (s := S8x512x1024) u S1x512x512.size iu).toLoadRect}
    {e9 : ((yM : Memref sig .tc .vmem S8x512x1024 .f32).access (Rect.unit (s := S8x512x1024) u S1x512x512.size iu)).Stores Finset.univ}
    {e10 : (Finset.univ : Finset (Rect.unit (s := S8x512x1024) u S1x512x512.size iu).shape.Idx) = Finset.univ ∨ ∀ a, (Rect.unit (s := S8x512x1024) u S1x512x512.size iu).stride a = 1}
    {f1 : (colsM pc jc).view.WordExact} {f2 : (slotM od id).view.WordExact} {f3 : (colsM pd jd).view.WordExact} {f4 : (slotM oe ie).view.WordExact}
    {f5 : DmaTarget.Typed (nD := nD) (p := .tc) .hbm (.dma se) (.here (slotM oe ie))}
    {f6 : (xM : Memref sig .tc .vmem S512x4096 .f32).view.LoadsAt rX.toLoadRect}
    {f7 : (wM : Memref sig .tc .vmem S2x4096x512 .f32).view.LoadsAt (Rect.unit (s := S2x4096x512) og S1x4096x512.size ig).toLoadRect}
    {f8 : (yM : Memref sig .tc .vmem S8x512x1024 .f32).view.LoadsAt (Rect.unit (s := S8x512x1024) v S1x512x512.size iv).toLoadRect}
    {f9 : ((yM : Memref sig .tc .vmem S8x512x1024 .f32).access (Rect.unit (s := S8x512x1024) v S1x512x512.size iv)).Stores Finset.univ}
    {f10 : (Finset.univ : Finset (Rect.unit (s := S8x512x1024) v S1x512x512.size iv).shape.Idx) = Finset.univ ∨ ∀ a, (Rect.unit (s := S8x512x1024) v S1x512x512.size iv).stride a = 1}
    {hsc : (rowsM p ip).view.ref.isScScratch = false} {g1 : (slabM z iz).view.WordExact} {g2 : (rowsM p ip).view.WordExact}
    {g3 : DmaTarget.Typed .vmem (.dma sR) (.remote (n : Thread nD τ) (rowsM p ip) (.dma sS) hsc)}
    {α : Type} {Q : α → sProp 𝕄} {cont : PUnit → Prog (TpuEff nD τ sig (Elt F) Λ₀ .tc) α} :
    iprop(records m K ∗ levAts L lv ∗ run m c 0 1 (col c r 0) ∗ oweB c (Odue c (r :: l)) ∗ toServe c r)
      ⊢ iprop((iprop(run m c 0 1 n' ∗ oweB c (Odue c l) ∗ cred (tallyAt (sendCell c r) () N))
            -∗ wp frame (wpE (defs₀ (F := F)) 𝒱₀ (c : Thread nD τ) none) Set.univ (cont ⟨⟩) Q)
        -∗ wp frame (wpE (defs₀ (F := F)) 𝒱₀ (c : Thread nD τ) none) Set.univ
            (.op (.waitDma2 sa (colsM pa ja) (slotM oa ia) e1 e2) fun _ =>
              .op (.enqueueDma (colsM pb jb) (.here (slotM ob ib)) (.dma sb) e3 e4 e5) fun _ =>
              .op (.load xM rX.toLoadRect e6) fun x =>
              .op (.load wM (Rect.unit (s := S2x4096x512) oc S1x4096x512.size ic).toLoadRect e7) fun w =>
              .op (.load yM (Rect.unit (s := S8x512x1024) u S1x512x512.size iu).toLoadRect e8) fun _ =>
              .op (.store yM (Rect.unit (s := S8x512x1024) u S1x512x512.size iu) (pay₁ x w) Finset.univ e9 e10) fun _ =>
              .op (.waitDma2 sd (colsM pc jc) (slotM od id) f1 f2) fun _ =>
              .op (.enqueueDma (colsM pd jd) (.here (slotM oe ie)) (.dma se) f3 f4 f5) fun _ =>
              .op (.load xM rX.toLoadRect f6) fun x =>
              .op (.load wM (Rect.unit (s := S2x4096x512) og S1x4096x512.size ig).toLoadRect f7) fun w =>
              .op (.load yM (Rect.unit (s := S8x512x1024) v S1x512x512.size iv).toLoadRect f8) fun _ =>
              .op (.store yM (Rect.unit (s := S8x512x1024) v S1x512x512.size iv) (pay₂ x w) Finset.univ f9 f10) fun _ =>
              .op (.enqueueDma (slabM z iz) (.remote (n : Thread nD τ) (rowsM p ip) (.dma sS) hsc) (.dma sR) g1 g2 g3) cont) Q) := by
  unfold toServe
  iintro ⟨#HR, #Hlev, Hrun, HO, Hy, Ht', Ht, Hd⟩ Hk
  ihave Hy := (yAny_halves c r) $$ Hy
  icases Hy with ⟨Hy0, Hy1⟩
  iapply (wp_turn m c 0 1 (n' := col c r 1) hb hc hpb hsa hsb (O := Odue c (r :: l)) (.inr (.inl ⟨_, rfl⟩))) $$ [Hrun HO]
  · isplitr; · iexact Hlev
    isplitl [Hrun]; · iexact Hrun
    iexact HO
  iintro ⟨Hrun, HO⟩
  iapply (wp_put m c r 0 hu rfl (hpay₁ _ _)) $$ Hy0
  iintro Hy0
  iapply (wp_turn m c 1 0 he hg hpd hsd hse (O := Odue c (r :: l)) (.inr (.inl ⟨_, rfl⟩))) $$ [Hrun HO]
  · isplitr; · iexact Hlev
    isplitl [Hrun]; · iexact Hrun
    iexact HO
  iintro ⟨Hrun, HO⟩
  iapply (wp_put m c r 1 hv rfl (hpay₂ _ _)) $$ Hy1
  iintro Hy1
  iapply (wp_send m c K r hr hn hz hp hsS hsR) $$ [Hy0 Hy1 Hd HO Ht Ht']
  · isplitr; · iexact HR
    isplitl [Hy0]; · iexact Hy0
    isplitl [Hy1]; · iexact Hy1
    isplitl [Hd]; · iexact Hd
    isplitl [HO]; · iexact HO
    isplitl [Ht]; · iexact Ht
    iexact Ht'
  iintro ⟨Hc, HO⟩
  iapply Hk
  isplitl [Hrun]; · iexact Hrun
  isplitl [HO]; · iexact HO
  iexact Hc

/-- The two waits for the peer at distance `r`. -/
theorem wp_wait (r : Fin 8) (hr : r ≠ 0) {sS sR : DmaSem sig} (hsS : sS = sendSem r) (hsR : sR = recvSem (num (peer c r)))
    {s' s'' : Shape} {sp' sp'' : Space} {e' e'' : EltTy} {src : Memref sig .tc sp' s' e'} {src' : Memref sig .tc sp'' s'' e''}
    {o : Fin 3 → ℕ} {o' : Fin 2 → ℕ} {inb inb'}
    {g1 : src.view.WordExact} {g2 : (slabM o inb).view.WordExact} {g3 : src'.view.WordExact} {g4 : (rowsM o' inb').view.WordExact}
    {α : Type} {Q : α → sProp 𝕄} {cont : PUnit → Prog (TpuEff nD τ sig (Elt F) Λ₀ .tc) α} :
    iprop(records m K ∗ oweB c 0 ∗ cred (tallyAt (sendCell c r) () N) ∗ toWait c r)
      ⊢ iprop((iprop(oweB c 0 ∗ waited m c r) -∗ wp frame (wpE (defs₀ (F := F)) 𝒱₀ (c : Thread nD τ) none) Set.univ (cont ⟨⟩) Q)
        -∗ wp frame (wpE (defs₀ (F := F)) 𝒱₀ (c : Thread nD τ) none) Set.univ
          (.op (.waitDma2 sS src (slabM o inb) g1 g2) fun _ => .op (.waitDma2 sR src' (rowsM o' inb') g3 g4) cont) Q) := by
  unfold toWait
  iintro ⟨#HR, HO, Hc, HatS, HatR, HcR⟩ Hk
  ihave ⟨#HI, -⟩ := (records_send m K c r) $$ HR
  ihave ⟨#HI', -⟩ := (records_recv m K c (num (peer c r))) $$ HR
  iapply (wp_sent m c K r hr hsS) $$ [HO Hc HatS]
  · isplitr; · iexact HR
    isplitl [Hc]; · iexact Hc
    isplitl [HO]; · iexact HO
    iexact HatS
  iintro ⟨HO, HatS, Hy⟩
  iapply (wp_got m c K r hr hsR) $$ [HO HcR HatR]
  · isplitr; · iexact HR
    isplitl [HcR]; · iexact HcR
    isplitl [HO]; · iexact HO
    iexact HatR
  iintro ⟨HO, HatR, Ho⟩
  imod (Rounds.cell_close ER (Rd m) (Set.mem_univ (K (c, sendJ r))) (fun h => h) (R := 0 + 1) (duties_later m (sendCell c r))) $$ [HatS] with HzS
  · isplitr; · iexact HI
    iexact HatS
  imod (Rounds.cell_close ER (Rd m) (Set.mem_univ (K (c, recvJ (num (peer c r))))) (fun h => h) (R := 0 + 1) (duties_later m (recvCell c (num (peer c r))))) $$ [HatR] with HzR
  · isplitr; · iexact HI'
    iexact HatR
  iapply Hk
  isplitl [HO]; · iexact HO
  unfold waited yAny
  isplitl [HzS]; · iexact HzS
  isplitl [HzR]; · iexact HzR
  isplitl [Hy]; · iexists _; iexact Hy
  iexact Ho

end Rules

end Cert.GemmProof
end
-- ==== Proof.Ends.lean ====
/-
One device's run of the kernel, from what it holds at entry to what it holds at the end.
-/
module

public import proofs.«01_k».proof.Proof.Segments

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (c : Dev nD) (K : Dev nD × Fin 17 → ℕ)

/-! ## Cutting the buffers up and putting them together -/

def oAny (d : Dev nD) : sProp 𝕄 := iprop(∃ f : Vec F S4096x1024 .f32, oLoc d ↦{fullShare} f)
def yWhole (d : Dev nD) : sProp 𝕄 := iprop(∃ f : Vec F S8x512x1024 .f32, yLoc d ↦{fullShare} f)
def wWhole (d : Dev nD) : sProp 𝕄 := iprop(∃ f : Vec F S2x4096x512 .f32, wLoc d ↦{fullShare} f)

theorem all_mono {S : Finset (Fin 8)} {Φ Ψ : Fin 8 → sProp 𝕄} (h : ∀ r, Φ r ⊢ Ψ r) : bigSep S Φ ⊢ bigSep S Ψ :=
  bigSep_mono fun r _ => h r

/-- The peers of a device, itself among them, are all the devices. -/
def around : Fin 8 ≃ Fin 8 where
  toFun r := num (peer c r)
  invFun s := num (peer c s)
  left_inv r := by revert c r; decide
  right_inv r := by revert c r; decide

/-- The result buffer is its eight row blocks, named by the distance of the device each comes from. -/
theorem o_rows (f : Vec F S4096x1024 .f32) :
    (oLoc c ↦{fullShare} f : sProp 𝕄) = bigSep Finset.univ fun r : Fin 8 => oRows c (peer c r).val f := by
  have h : (oLoc c ↦{fullShare} f : sProp 𝕄) = bigSep Finset.univ fun s : Fin 8 => oRows c s.val f := by
    show (oLoc c ↦[(Finset.univ : Finset S4096x1024.Idx)]{fullShare} f : sProp 𝕄) = _
    rw [rows_univ]
    exact pointsTo_biUnion _ _ fun s _ t _ h => rows_disj fun e => h (Fin.ext e)
  rw [h]
  exact bigSep_univ_equiv (around c) fun s : Fin 8 => oRows c s.val f

theorem y_slabs : (yWhole c : sProp 𝕄) ⊢ bigSep Finset.univ fun r : Fin 8 => yAny c r := by
  unfold yWhole yAny
  iintro ⟨%f, Hy⟩
  have h : (yLoc c ↦{fullShare} f : sProp 𝕄) = bigSep Finset.univ fun r : Fin 8 => ySlab c r.val f := by
    show (yLoc c ↦[(Finset.univ : Finset S8x512x1024.Idx)]{fullShare} f : sProp 𝕄) = _
    rw [slabs_univ]
    exact pointsTo_biUnion _ _ fun s _ t _ h => slab_disj fun e => h (Fin.ext e)
  ihave Hy := (Entails.of_eq h) $$ Hy
  have h' : (bigSep Finset.univ fun r : Fin 8 => ySlab c r.val f : sProp 𝕄) ⊢ bigSep Finset.univ fun r : Fin 8 => iprop(∃ f : Vec F S8x512x1024 .f32, ySlab c r.val f) :=
    all_mono fun r => by iintro H; iexists f; iexact H
  iapply h' $$ Hy
/-- Eight parts of a buffer, each at some contents, are the buffer at some contents. -/
theorem join_any {ℓ : Loc nD τ sig} (R : Fin 8 → Finset (Idx ℓ)) (hd : ∀ r t, r ≠ t → Disjoint (R r) (R t)) (hu : Finset.univ = Finset.univ.biUnion R)
    (f₀ : Buf (Elt F) ℓ) :
    (bigSep Finset.univ fun r : Fin 8 => (iprop(∃ f : Buf (Elt F) ℓ, ℓ ↦[R r]{fullShare} f) : sProp 𝕄)) ⊢ iprop(∃ f : Buf (Elt F) ℓ, ℓ ↦{fullShare} f) := by
  have hne : Nonempty (Buf (Elt F) ℓ) := ⟨f₀⟩
  iintro H
  ihave H := (bigSep_exists_pi (Y := fun _ : Fin 8 => Buf (Elt F) ℓ) Finset.univ fun (r : Fin 8) (f : Buf (Elt F) ℓ) => (ℓ ↦[R r]{fullShare} f : sProp 𝕄)) $$ H
  icases H with ⟨%fs, H⟩
  ihave H := (pointsTo_biUnion_join Finset.univ R fs f₀ (fun s _ t _ h => hd s t h)) $$ H
  icases H with ⟨%g, -, H⟩
  iexists g
  rw [hu]
  iexact H
theorem y_join (f₀ : Vec F S8x512x1024 .f32) : (bigSep Finset.univ fun r : Fin 8 => yAny c r : sProp 𝕄) ⊢ yWhole c := by
  unfold yWhole yAny ySlab
  exact join_any (ℓ := yLoc c) (fun r => slabR r.val) (fun _ _ h => slab_disj fun e => h (Fin.ext e)) slabs_univ f₀
theorem w_slots : (wWhole c : sProp 𝕄) ⊢ iprop(wFree c 0 ∗ wFree c 1) := by
  unfold wWhole wFree wSlot
  iintro ⟨%f, H⟩
  have h : (wLoc c ↦{fullShare} f : sProp 𝕄) ⊢ iprop((wLoc c ↦[slotR 0]{fullShare} f) ∗ wLoc c ↦[slotR 1]{fullShare} f) := by
    show (wLoc c ↦[(Finset.univ : Finset S2x4096x512.Idx)]{fullShare} f : sProp 𝕄) ⊢ _
    rw [slots_univ]
    exact (pointsTo_union (slot_disj (by decide))).1
  ihave H := h $$ H
  icases H with ⟨H0, H1⟩
  isplitl [H0]
  · iexists f; iexact H0
  · iexists f; iexact H1
theorem w_join : (iprop(wFree c 0 ∗ wFree c 1) : sProp 𝕄) ⊢ wWhole c := by
  unfold wWhole wFree wSlot
  iintro ⟨⟨%f, H0⟩, ⟨%g, H1⟩⟩
  have h : (iprop((wLoc c ↦[slotR 0]{fullShare} f) ∗ wLoc c ↦[slotR 1]{fullShare} g) : sProp 𝕄)
      ⊢ (wLoc c ↦{fullShare} ((slotR 1).piecewise g f)) := by
    show _ ⊢ (wLoc c ↦[(Finset.univ : Finset S2x4096x512.Idx)]{fullShare} _ : sProp 𝕄)
    rw [slots_univ]
    exact pointsTo_join (slot_disj (by decide))
  iexists ((slotR 1).piecewise g f)
  iapply h
  isplitl [H0]; · iexact H0
  iexact H1
theorem own_halves : (oFree c c.val : sProp 𝕄) ⊢ iprop(ownFree c 0 ∗ ownFree c 1) := by
  unfold oFree oRows ownFree
  rw [rows_eq]
  iintro ⟨%f, H⟩
  ihave H := (pointsTo_union (tile_disj c.val)).1 $$ H
  icases H with ⟨H0, H1⟩
  isplitl [H0]
  · iexists f; iexact H0
  · iexists f; iexact H1
theorem own_join : (iprop(ownHalf m c 0 ∗ ownHalf m c 1) : sProp 𝕄) ⊢ oRows c c.val (oC m c) := by
  unfold oRows ownHalf
  rw [rows_eq]
  exact (pointsTo_union (tile_disj c.val)).2

theorem dists_list (Φ : Fin 8 → sProp 𝕄) :
    bigSep dists Φ = iprop(Φ 1 ∗ Φ 3 ∗ Φ 4 ∗ Φ 2 ∗ Φ 5 ∗ Φ 7 ∗ Φ 6) :=
  bigSep_eq_bigSepL_of_eq order (by decide) (by decide) Φ
theorem univ_dists (Φ : Fin 8 → sProp 𝕄) : bigSep Finset.univ Φ = iprop(Φ 0 ∗ bigSep dists Φ) := bigSep_univ_at Φ 0

/-! ## Before and after -/

/-- What a device holds when its kernel starts: its share of the schedule, the buffers, what it owes. -/
def pre : sProp 𝕄 :=
  iprop(ghost m K c ∗ wWhole c ∗ yWhole c ∗ gAll m c ∗ xAll m c ∗ oAny c ∗ oweB c (Bdue c order))

/-- What it holds at the end: its result filled, the other buffers, nothing owed, every counter at zero. -/
def post : sProp 𝕄 :=
  iprop(wWhole c ∗ yWhole c ∗ gAll m c ∗ xAll m c ∗ (oLoc c ↦{fullShare} oC m c) ∗ oweB c 0
    ∗ semVal (barCell c) 0 ∗ semVal ((c : Thread nD τ), .dma (wSem 0)) 0 ∗ semVal ((c : Thread nD τ), .dma (wSem 1)) 0
    ∗ (bigSep Finset.univ fun r : Fin 8 => semVal (sendCell c r) 0) ∗ bigSep Finset.univ fun r : Fin 8 => semVal (recvCell c (num (peer c r))) 0)

/-- The parts of the start, sorted by what uses them. -/
def sorted : sProp 𝕄 :=
  iprop(records m K ∗ levAts L lv ∗ atPos ER (barCell c) 0 ∅ 0 ∗ cred (tallyAt (barCell c) () 7)
    ∗ atPos ER (sendCell c 0) 0 ∅ 0 ∗ atPos ER (recvCell c (num c)) 0 ∅ 0
    ∗ semVal ((c : Thread nD τ), .dma (wSem 0)) 0 ∗ semVal ((c : Thread nD τ), .dma (wSem 1)) 0
    ∗ wFree c 0 ∗ wFree c 1 ∗ gAll m c ∗ xAll m c ∗ yAny c 0 ∗ ownFree c 0 ∗ ownFree c 1 ∗ oweB c (Bdue c order)
    ∗ bigSep dists (toSignal c)
    ∗ (bigSep dists fun r => iprop(yAny c r ∗ dutyTok ER (recvCell (peer c r) (num c)) 0 (0 : Fin 8) ∗ dutyTok ER (sendCell c r) 0 (0 : Fin 8)))
    ∗ bigSep dists (toWait c))

theorem pre_sorted : (pre m c K : sProp 𝕄) ⊢ sorted m c K := by
  unfold pre ghost oAny sorted
  iintro ⟨⟨#HR, #Hlev, HatB, HcB, HatS, HatV, Hgear, Hv0, Hv1⟩, Hw, Hy, Hg, Hx, ⟨%f, Ho⟩, HO⟩
  ihave Hw := (w_slots c) $$ Hw
  icases Hw with ⟨Hw0, Hw1⟩
  ihave Hy := (y_slabs c) $$ Hy
  ihave Hy := (Entails.of_eq (univ_dists (F := F) (fun r : Fin 8 => yAny c r))) $$ Hy
  icases Hy with ⟨Hy0, Hy⟩
  ihave Ho := (Entails.of_eq ((o_rows c f).trans (univ_dists (F := F) _))) $$ Ho
  icases Ho with ⟨Ho0, Ho⟩
  have hown : (oRows c (peer c 0).val f : sProp 𝕄) ⊢ oFree c c.val := by
    rw [peer_zero]; unfold oFree; iintro H; iexists f; iexact H
  ihave Ho0 := hown $$ Ho0
  ihave Ho0 := (own_halves c) $$ Ho0
  icases Ho0 with ⟨Ho0, Ho1⟩
  have hall : (iprop((bigSep dists (gear c)) ∗ (bigSep dists fun r => oRows c (peer c r).val f) ∗ bigSep dists fun r => yAny c r) : sProp 𝕄)
      ⊢ iprop(bigSep dists (toSignal c)
        ∗ (bigSep dists fun r => iprop(yAny c r ∗ dutyTok ER (recvCell (peer c r) (num c)) 0 (0 : Fin 8) ∗ dutyTok ER (sendCell c r) 0 (0 : Fin 8)))
        ∗ bigSep dists (toWait c)) := by
    rw [← bigSep_sep', ← bigSep_sep', ← bigSep_sep', ← bigSep_sep']
    refine all_mono fun r => ?_
    unfold gear toSignal toWait oFree
    iintro ⟨⟨HtB, HtV, HtS, HatS, HatV, HcV⟩, Ho, Hy⟩
    isplitl [HtB Ho]
    · isplitl [HtB]; · iexact HtB
      iexists f; iexact Ho
    isplitl [Hy HtV HtS]
    · isplitl [Hy]; · iexact Hy
      isplitl [HtV]; · iexact HtV
      iexact HtS
    isplitl [HatS]; · iexact HatS
    isplitl [HatV]; · iexact HatV
    iexact HcV
  ihave H := hall $$ [Hgear Ho Hy]
  · isplitl [Hgear]; · iexact Hgear
    isplitl [Ho]; · iexact Ho
    iexact Hy
  icases H with ⟨Hs1, Hs2, Hs3⟩
  isplitr; · iexact HR
  isplitr; · iexact Hlev
  isplitl [HatB]; · iexact HatB
  isplitl [HcB]; · iexact HcB
  isplitl [HatS]; · iexact HatS
  isplitl [HatV]; · iexact HatV
  isplitl [Hv0]; · iexact Hv0
  isplitl [Hv1]; · iexact Hv1
  isplitl [Hw0]; · iexact Hw0
  isplitl [Hw1]; · iexact Hw1
  isplitl [Hg]; · iexact Hg
  isplitl [Hx]; · iexact Hx
  isplitl [Hy0]; · iexact Hy0
  isplitl [Ho0]; · iexact Ho0
  isplitl [Ho1]; · iexact Ho1
  isplitl [HO]; · iexact HO
  isplitl [Hs1]; · iexact Hs1
  isplitl [Hs2]; · iexact Hs2
  iexact Hs3

/-- All eight parts of the end, the device's own among them, make up the end. -/
theorem waited_post :
    (iprop((bigSep Finset.univ fun r : Fin 8 => waited m c r) ∗ idle m c 1 0 ∗ oweB c 0 ∗ semVal (barCell c) 0) : sProp 𝕄) ⊢ post m c := by
  have h : (bigSep Finset.univ fun r : Fin 8 => waited m c r : sProp 𝕄)
      ⊢ iprop((bigSep Finset.univ fun r : Fin 8 => semVal (sendCell c r) 0) ∗ (bigSep Finset.univ fun r : Fin 8 => semVal (recvCell c (num (peer c r))) 0)
        ∗ yWhole c ∗ (oLoc c ↦{fullShare} oC m c)) := by
    unfold waited
    rw [bigSep_sep', bigSep_sep', bigSep_sep', o_rows]
    exact sep_mono_right (sep_mono_right (sep_mono_left (y_join c (yC m c))))
  unfold idle post
  iintro ⟨H, ⟨Hg, Hw1, Hw0, Hv1, Hv0, Hx⟩, HO, HB⟩
  ihave H := h $$ H
  icases H with ⟨HS, HV, Hy, Ho⟩
  ihave Hw := (w_join c) $$ [Hw0 Hw1]
  · isplitl [Hw0]; · iexact Hw0
    iexact Hw1
  isplitl [Hw]; · iexact Hw
  isplitl [Hy]; · iexact Hy
  isplitl [Hg]; · iexact Hg
  isplitl [Hx]; · iexact Hx
  isplitl [Ho]; · iexact Ho
  isplitl [HO]; · iexact HO
  isplitl [HB]; · iexact HB
  isplitl [Hv0]; · iexact Hv0
  isplitl [Hv1]; · iexact Hv1
  isplitl [HS]; · iexact HS
  iexact HV

end Cert.GemmProof
end
-- ==== Proof.Body.lean ====
/-
The kernel's body, run from entry to end on one device.
-/
module

public import proofs.«01_k».proof.Proof.Ends

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (c : Dev nD) (K : Dev nD × Fin 17 → ℕ)

theorem own_off (d : Dev nD) : k0_off4 d = ![512 * d.val, 512 * 0] := k0_off4_eq d
theorem own_off' (d : Dev nD) : k0_off5 d = ![512 * d.val, 512 * 1] := k0_off5_eq d

set_option maxHeartbeats 4000000 in
/-- From what a device holds at entry, its body runs to the end and leaves what `post` says. -/
theorem body_run (Kt : PUnit → sProp 𝕄) :
    iprop(pre m c K ∗ (post m c -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _)
            (Memref.whole cc0_stg1_0) (Memref.isWhole_whole _) (Memref.whole cc0_scratch0) (Memref.isWhole_whole _)
            (Memref.whole cc0_scratch1) (Memref.isWhole_whole _) cc0_scratch2 cc0_scratch3 cc0_scratch4) Kt := by
  simp only [cc0_body_eq_skeleton]; unfold cc0_body_skel
  simp only [k0_part22_eq_skeleton]; unfold k0_part22_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel
  simp only [semSignalWord, semWaitWord, Prog.lift, Prog.bind_op, Prog.bind_ret, Prog.pure_eq_ret, wp_deviceId]
  iintro ⟨Hpre, Hend⟩
  ihave Hpre := (pre_sorted m c K) $$ Hpre
  unfold sorted
  icases Hpre with ⟨#HR, #Hlev, HatB, HcB, HatS, HatV, Hv0, Hv1, Hw0, Hw1, Hg, Hx, Hy0, Ho0, Ho1, HO, Hsig, Hsrv, Hwt⟩
  -- tell the seven peers
  ihave Hsig := (Entails.of_eq (dists_list (F := F) (toSignal c))) $$ Hsig
  unfold toSignal
  icases Hsig with ⟨⟨T1, P1⟩, ⟨T3, P3⟩, ⟨T4, P4⟩, ⟨T2, P2⟩, ⟨T5, P5⟩, ⟨T7, P7⟩, ⟨T6, P6⟩⟩
  iapply (wp_sig m c K 1 (by decide) (dev1_eq c) (l := [3, 4, 2, 5, 7, 6]) (by decide)) $$ [HO T1 P1]
  · isplitr; · iexact HR
    isplitl [HO]; · iexact HO
    isplitl [T1]; · iexact T1
    iexact P1
  iintro HO
  iapply (wp_sig m c K 3 (by decide) (dev2_eq c) (l := [4, 2, 5, 7, 6]) (by decide)) $$ [HO T3 P3]
  · isplitr; · iexact HR
    isplitl [HO]; · iexact HO
    isplitl [T3]; · iexact T3
    iexact P3
  iintro HO
  iapply (wp_sig m c K 4 (by decide) (dev3_eq c) (l := [2, 5, 7, 6]) (by decide)) $$ [HO T4 P4]
  · isplitr; · iexact HR
    isplitl [HO]; · iexact HO
    isplitl [T4]; · iexact T4
    iexact P4
  iintro HO
  iapply (wp_sig m c K 2 (by decide) (dev4_eq c) (l := [5, 7, 6]) (by decide)) $$ [HO T2 P2]
  · isplitr; · iexact HR
    isplitl [HO]; · iexact HO
    isplitl [T2]; · iexact T2
    iexact P2
  iintro HO
  iapply (wp_sig m c K 5 (by decide) (dev5_eq c) (l := [7, 6]) (by decide)) $$ [HO T5 P5]
  · isplitr; · iexact HR
    isplitl [HO]; · iexact HO
    isplitl [T5]; · iexact T5
    iexact P5
  iintro HO
  iapply (wp_sig m c K 7 (by decide) (dev6_eq c) (l := [6]) (by decide)) $$ [HO T7 P7]
  · isplitr; · iexact HR
    isplitl [HO]; · iexact HO
    isplitl [T7]; · iexact T7
    iexact P7
  iintro HO
  iapply (wp_sig m c K 6 (by decide) (dev7_eq c) (l := []) (by decide)) $$ [HO T6 P6]
  · isplitr; · iexact HR
    isplitl [HO]; · iexact HO
    isplitl [T6]; · iexact T6
    iexact P6
  iintro HO
  -- wait for the seven peers
  iapply (wp_bar m c K (l := order) (by decide)) $$ [HO HcB HatB]
  · isplitr; · iexact HR
    isplitr; · iexact Hlev
    isplitl [HO]; · iexact HO
    isplitl [HcB]; · iexact HcB
    iexact HatB
  iintro ⟨HO, HatB, Hpeer⟩
  have hsrv : (iprop((bigSep dists fun r => iprop(yAny c r ∗ dutyTok ER (recvCell (peer c r) (num c)) 0 (0 : Fin 8) ∗ dutyTok ER (sendCell c r) 0 (0 : Fin 8)))
      ∗ bigSep dists fun r => oFree (peer c r) c.val) : sProp 𝕄) ⊢ bigSep dists (toServe c) := by
    rw [← bigSep_sep']
    refine all_mono fun r => ?_
    unfold toServe
    iintro ⟨⟨H1, H2, H3⟩, H4⟩
    isplitl [H1]; · iexact H1
    isplitl [H2]; · iexact H2
    isplitl [H3]; · iexact H3
    iexact H4
  ihave Hsrv := hsrv $$ [Hsrv Hpeer]
  · isplitl [Hsrv]; · iexact Hsrv
    iexact Hpeer
  ihave Hsrv := (Entails.of_eq (dists_list (F := F) (toServe c))) $$ Hsrv
  icases Hsrv with ⟨S1, S3, S4, S2, S5, S7, S6⟩
  -- the first weight copy
  iapply (wp_start m c 0 (n := col c 1 0) rfl (off1_eq c 1 0) (wsem_eq 0 rfl _)) $$ [Hg Hw0 Hv0]
  · isplitl [Hg]; · iexact Hg
    isplitl [Hw0]; · iexact Hw0
    iexact Hv0
  iintro Hf
  ihave Hrun : (run m c 0 1 (col c 1 0) : sProp 𝕄) $$ [Hf Hw1 Hv1 Hx]
  · unfold run
    isplitl [Hf]; · iexact Hf
    isplitl [Hw1]; · iexact Hw1
    isplitl [Hv1]; · iexact Hv1
    iexact Hx
  -- the seven slabs
  iapply (wp_serve m c K 1 (by decide) (dev8_eq c) (l := [3, 4, 2, 5, 7, 6]) (n' := col c 3 0) rfl rfl rfl rfl
    (off1_eq c 1 1) (off1_eq c 3 0) rfl rfl rfl (k0_off3_eq c) (wsem_eq 0 rfl _) (wsem_eq 1 rfl _) (wsem_eq 1 rfl _) (wsem_eq 0 rfl _)
    (ssem_eq 1 rfl _) (rsem_eq (num c) (k0_off2_eq c) _) (fun _ _ => rfl) (fun _ _ => rfl)) $$ [Hrun HO S1]
  · isplitr; · iexact HR
    isplitr; · iexact Hlev
    isplitl [Hrun]; · iexact Hrun
    isplitl [HO]; · iexact HO
    iexact S1
  iintro ⟨Hrun, HO, C1⟩
  iapply (wp_serve m c K 3 (by decide) (dev9_eq c) (l := [4, 2, 5, 7, 6]) (n' := col c 4 0) rfl rfl rfl rfl
    (off1_eq c 3 1) (off1_eq c 4 0) rfl rfl rfl (k0_off3_eq c) (wsem_eq 0 rfl _) (wsem_eq 1 rfl _) (wsem_eq 1 rfl _) (wsem_eq 0 rfl _)
    (ssem_eq 3 rfl _) (rsem_eq (num c) (k0_off2_eq c) _) (fun _ _ => rfl) (fun _ _ => rfl)) $$ [Hrun HO S3]
  · isplitr; · iexact HR
    isplitr; · iexact Hlev
    isplitl [Hrun]; · iexact Hrun
    isplitl [HO]; · iexact HO
    iexact S3
  iintro ⟨Hrun, HO, C3⟩
  iapply (wp_serve m c K 4 (by decide) (dev10_eq c) (l := [2, 5, 7, 6]) (n' := col c 2 0) rfl rfl rfl rfl
    (off1_eq c 4 1) (off1_eq c 2 0) rfl rfl rfl (k0_off3_eq c) (wsem_eq 0 rfl _) (wsem_eq 1 rfl _) (wsem_eq 1 rfl _) (wsem_eq 0 rfl _)
    (ssem_eq 4 rfl _) (rsem_eq (num c) (k0_off2_eq c) _) (fun _ _ => rfl) (fun _ _ => rfl)) $$ [Hrun HO S4]
  · isplitr; · iexact HR
    isplitr; · iexact Hlev
    isplitl [Hrun]; · iexact Hrun
    isplitl [HO]; · iexact HO
    iexact S4
  iintro ⟨Hrun, HO, C4⟩
  iapply (wp_serve m c K 2 (by decide) (dev11_eq c) (l := [5, 7, 6]) (n' := col c 5 0) rfl rfl rfl rfl
    (off1_eq c 2 1) (off1_eq c 5 0) rfl rfl rfl (k0_off3_eq c) (wsem_eq 0 rfl _) (wsem_eq 1 rfl _) (wsem_eq 1 rfl _) (wsem_eq 0 rfl _)
    (ssem_eq 2 rfl _) (rsem_eq (num c) (k0_off2_eq c) _) (fun _ _ => rfl) (fun _ _ => rfl)) $$ [Hrun HO S2]
  · isplitr; · iexact HR
    isplitr; · iexact Hlev
    isplitl [Hrun]; · iexact Hrun
    isplitl [HO]; · iexact HO
    iexact S2
  iintro ⟨Hrun, HO, C2⟩
  iapply (wp_serve m c K 5 (by decide) (dev12_eq c) (l := [7, 6]) (n' := col c 7 0) rfl rfl rfl rfl
    (off1_eq c 5 1) (off1_eq c 7 0) rfl rfl rfl (k0_off3_eq c) (wsem_eq 0 rfl _) (wsem_eq 1 rfl _) (wsem_eq 1 rfl _) (wsem_eq 0 rfl _)
    (ssem_eq 5 rfl _) (rsem_eq (num c) (k0_off2_eq c) _) (fun _ _ => rfl) (fun _ _ => rfl)) $$ [Hrun HO S5]
  · isplitr; · iexact HR
    isplitr; · iexact Hlev
    isplitl [Hrun]; · iexact Hrun
    isplitl [HO]; · iexact HO
    iexact S5
  iintro ⟨Hrun, HO, C5⟩
  iapply (wp_serve m c K 7 (by decide) (dev13_eq c) (l := [6]) (n' := col c 6 0) rfl rfl rfl rfl
    (off1_eq c 7 1) (off1_eq c 6 0) rfl rfl rfl (k0_off3_eq c) (wsem_eq 0 rfl _) (wsem_eq 1 rfl _) (wsem_eq 1 rfl _) (wsem_eq 0 rfl _)
    (ssem_eq 7 rfl _) (rsem_eq (num c) (k0_off2_eq c) _) (fun _ _ => rfl) (fun _ _ => rfl)) $$ [Hrun HO S7]
  · isplitr; · iexact HR
    isplitr; · iexact Hlev
    isplitl [Hrun]; · iexact Hrun
    isplitl [HO]; · iexact HO
    iexact S7
  iintro ⟨Hrun, HO, C7⟩
  iapply (wp_serve m c K 6 (by decide) (dev14_eq c) (l := []) (n' := col c 0 0) rfl rfl rfl rfl
    (off1_eq c 6 1) (off1_eq c 0 0) rfl rfl rfl (k0_off3_eq c) (wsem_eq 0 rfl _) (wsem_eq 1 rfl _) (wsem_eq 1 rfl _) (wsem_eq 0 rfl _)
    (ssem_eq 6 rfl _) (rsem_eq (num c) (k0_off2_eq c) _) (fun _ _ => rfl) (fun _ _ => rfl)) $$ [Hrun HO S6]
  · isplitr; · iexact HR
    isplitr; · iexact Hlev
    isplitl [Hrun]; · iexact Hrun
    isplitl [HO]; · iexact HO
    iexact S6
  iintro ⟨Hrun, HO, C6⟩
  -- the device's own rows
  iapply (wp_turn m c 0 1 (n' := col c 0 1) rfl rfl (off1_eq c 0 1) (wsem_eq 0 rfl _) (wsem_eq 1 rfl _) (O := 0) (.inl rfl)) $$ [Hrun HO]
  · isplitr; · iexact Hlev
    isplitl [Hrun]; · iexact Hrun
    iexact HO
  iintro ⟨Hrun, HO⟩
  iapply (wp_putOwn m c 0 (own_off c) rfl (n := col c 0 0) rfl) $$ Ho0
  iintro Ho0
  iapply (wp_last m c 1 0 rfl (wsem_eq 1 rfl _) (O := 0) (.inl rfl)) $$ [Hrun HO]
  · isplitr; · iexact Hlev
    isplitl [Hrun]; · iexact Hrun
    iexact HO
  iintro ⟨Hidle, HO⟩
  iapply (wp_putOwn m c 1 (own_off' c) rfl (n := col c 0 1) rfl) $$ Ho1
  iintro Ho1
  -- the waits for the seven peers
  ihave Hwt := (Entails.of_eq (dists_list (F := F) (toWait c))) $$ Hwt
  icases Hwt with ⟨W1, W3, W4, W2, W5, W7, W6⟩
  iapply (wp_wait m c K 1 (by decide) (ssem_eq 1 rfl _) (rsem_eq (num (peer c 1)) (off6_eq c 1) _)) $$ [HO C1 W1]
  · isplitr; · iexact HR
    isplitl [HO]; · iexact HO
    isplitl [C1]; · iexact C1
    iexact W1
  iintro ⟨HO, W1⟩
  iapply (wp_wait m c K 3 (by decide) (ssem_eq 3 rfl _) (rsem_eq (num (peer c 3)) (off6_eq c 3) _)) $$ [HO C3 W3]
  · isplitr; · iexact HR
    isplitl [HO]; · iexact HO
    isplitl [C3]; · iexact C3
    iexact W3
  iintro ⟨HO, W3⟩
  iapply (wp_wait m c K 4 (by decide) (ssem_eq 4 rfl _) (rsem_eq (num (peer c 4)) (off6_eq c 4) _)) $$ [HO C4 W4]
  · isplitr; · iexact HR
    isplitl [HO]; · iexact HO
    isplitl [C4]; · iexact C4
    iexact W4
  iintro ⟨HO, W4⟩
  iapply (wp_wait m c K 2 (by decide) (ssem_eq 2 rfl _) (rsem_eq (num (peer c 2)) (off6_eq c 2) _)) $$ [HO C2 W2]
  · isplitr; · iexact HR
    isplitl [HO]; · iexact HO
    isplitl [C2]; · iexact C2
    iexact W2
  iintro ⟨HO, W2⟩
  iapply (wp_wait m c K 5 (by decide) (ssem_eq 5 rfl _) (rsem_eq (num (peer c 5)) (off6_eq c 5) _)) $$ [HO C5 W5]
  · isplitr; · iexact HR
    isplitl [HO]; · iexact HO
    isplitl [C5]; · iexact C5
    iexact W5
  iintro ⟨HO, W5⟩
  iapply (wp_wait m c K 7 (by decide) (ssem_eq 7 rfl _) (rsem_eq (num (peer c 7)) (off6_eq c 7) _)) $$ [HO C7 W7]
  · isplitr; · iexact HR
    isplitl [HO]; · iexact HO
    isplitl [C7]; · iexact C7
    iexact W7
  iintro ⟨HO, W7⟩
  iapply (wp_wait m c K 6 (by decide) (ssem_eq 6 rfl _) (rsem_eq (num (peer c 6)) (off6_eq c 6) _)) $$ [HO C6 W6]
  · isplitr; · iexact HR
    isplitl [HO]; · iexact HO
    isplitl [C6]; · iexact C6
    iexact W6
  iintro ⟨HO, W6⟩
  -- the cells no copy used, and the barrier's, close
  ihave ⟨#HIB, -⟩ := (records_bar m K c) $$ HR
  ihave ⟨#HIS, -⟩ := (records_send m K c 0) $$ HR
  ihave ⟨#HIV, -⟩ := (records_recv m K c (num c)) $$ HR
  imod (Rounds.cell_close ER (Rd m) (Set.mem_univ (K (c, 0))) (fun h => h) (R := 0 + 1) (duties_later m (barCell c))) $$ [HatB] with HzB
  · isplitr; · iexact HIB
    iexact HatB
  imod (Rounds.cell_close ER (Rd m) (Set.mem_univ (K (c, sendJ 0))) (fun h => h) (R := 0) (fun r _ => duties_send0 m c r)) $$ [HatS] with HzS
  · isplitr; · iexact HIS
    iexact HatS
  imod (Rounds.cell_close ER (Rd m) (Set.mem_univ (K (c, recvJ (num c)))) (fun h => h) (R := 0) (fun r _ => duties_recv0 m c r)) $$ [HatV] with HzV
  · isplitr; · iexact HIV
    iexact HatV
  rw [wp_ret]; imodintro
  iapply Hend
  iapply (waited_post m c)
  ihave Ho := (own_join m c) $$ [Ho0 Ho1]
  · isplitl [Ho0]; · iexact Ho0
    iexact Ho1
  isplitr [Hidle HO HzB]
  · iapply (Entails.of_eq (univ_dists (F := F) (waited m c)).symm)
    isplitl [HzS HzV Hy0 Ho]
    · unfold waited
      rw [peer_zero]
      isplitl [HzS]; · iexact HzS
      isplitl [HzV]; · iexact HzV
      isplitl [Hy0]; · iexact Hy0
      iexact Ho
    · iapply (Entails.of_eq (dists_list (F := F) (waited m c)).symm)
      isplitl [W1]; · iexact W1
      isplitl [W3]; · iexact W3
      isplitl [W4]; · iexact W4
      isplitl [W2]; · iexact W2
      isplitl [W5]; · iexact W5
      isplitl [W7]; · iexact W7
      iexact W6
  isplitl [Hidle]; · iexact Hidle
  isplitl [HO]; · iexact HO
  iexact HzB

end Cert.GemmProof
end
-- ==== Proof.Deal.lean ====
/-
How the launch deals out the schedule: every scheduled cell's counter, invariant and position to the device whose cell it
is, every right to pay to the device that pays, and to every device the credit of what is owed to its cells.
-/
module

public import proofs.«01_k».proof.Proof.Body
public import Idealize.ShloMosaic.Lib.Pipeline.Launch
public import Idealize.ShloMosaic.Lib.Quiescent
public import Idealize.ShloMosaic.Lib.Pipeline.CollectiveSegs

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights to pay, as made at launch -/

theorem csem_inj : Function.Injective csem := by decide
theorem kcell_inj : Function.Injective (kcell : Dev nD × Fin 17 → GSem nD τ sig) := fun a b h =>
  Prod.ext (congrArg (fun g : GSem nD τ sig => g.1.1) h) (csem_inj (congrArg Prod.snd h))
def schedCells : Finset (GSem nD τ sig) := Finset.univ.map ⟨kcell, kcell_inj⟩

theorem recvCell_iff {a b : Dev nD} {s t : Fin 8} : recvCell a s = recvCell b t ↔ a = b ∧ s = t := by
  constructor
  · intro h
    refine ⟨congrArg (fun g : GSem nD τ sig => g.1.1) h, Fin.ext ?_⟩
    have h2 : 12 + s.val = 12 + t.val := congrArg Fin.val (SemLoc.dma.inj (congrArg Prod.snd h))
    omega
  · rintro ⟨rfl, rfl⟩; rfl
theorem sendCell_iff {a b : Dev nD} {s t : Fin 8} : sendCell a s = sendCell b t ↔ a = b ∧ s = t := by
  constructor
  · intro h
    refine ⟨congrArg (fun g : GSem nD τ sig => g.1.1) h, Fin.ext ?_⟩
    have h2 : 4 + s.val = 4 + t.val := congrArg Fin.val (SemLoc.dma.inj (congrArg Prod.snd h))
    omega
  · rintro ⟨rfl, rfl⟩; rfl
theorem barCell_iff {a b : Dev nD} : barCell a = barCell b ↔ a = b :=
  ⟨fun h => congrArg (fun g : GSem nD τ sig => g.1.1) h, fun h => h ▸ rfl⟩
theorem recv_ne_send {a b : Dev nD} {s t : Fin 8} : recvCell a s ≠ sendCell b t := fun h => by
  have h2 : 12 + s.val = 4 + t.val := congrArg Fin.val (SemLoc.dma.inj (congrArg Prod.snd h))
  omega
theorem recv_ne_bar {a b : Dev nD} {s : Fin 8} : recvCell a s ≠ barCell b := fun h => by cases congrArg Prod.snd h
theorem send_ne_bar {a b : Dev nD} {s : Fin 8} : sendCell a s ≠ barCell b := fun h => by cases congrArg Prod.snd h

/-- The rights to pay that device `c` uses for the peer at distance `r`: for its signal there, for its copy there, for the
    copy's reading its slab. -/
def payOf (x : (Dev nD × Fin 8) × Fin 3) : GSem nD τ sig × ℕ × Fin 8 := match x.2 with
  | 0 => (barCell (peer x.1.1 x.1.2), 0, x.1.2)
  | 1 => (recvCell (peer x.1.1 x.1.2) (num x.1.1), 0, 0)
  | 2 => (sendCell x.1.1 x.1.2, 0, 0)
theorem payOf_inj : Function.Injective payOf := by
  rintro ⟨⟨c, r⟩, k⟩ ⟨⟨c', r'⟩, k'⟩ h
  have h1 : (payOf ((c, r), k)).1 = (payOf ((c', r'), k')).1 := congrArg Prod.fst h
  have h2 : (payOf ((c, r), k)).2.2 = (payOf ((c', r'), k')).2.2 := congrArg (fun x => x.2.2) h
  fin_cases k <;> fin_cases k'
  · have e : r = r' := h2
    subst e
    have e : peer c r = peer c' r := barCell_iff.mp h1
    have e : c = c' := by rw [← peer_peer c r, e, peer_peer]
    subst e; rfl
  · exact absurd h1.symm recv_ne_bar
  · exact absurd h1.symm send_ne_bar
  · exact absurd h1 recv_ne_bar
  · obtain ⟨e, e'⟩ := recvCell_iff.mp h1
    have e' : c = c' := e'
    subst e'
    have e := peer_inj c e
    subst e; rfl
  · exact absurd h1 recv_ne_send
  · exact absurd h1 send_ne_bar
  · exact absurd h1.symm recv_ne_send
  · obtain ⟨e, e'⟩ := sendCell_iff.mp h1
    subst e e'; rfl
def schedPays : Finset (GSem nD τ sig × ℕ × Fin 8) := Finset.univ.map ⟨payOf, payOf_inj⟩

/-- What the launch starts the ghost resources at. -/
def u₀ : UU :=
  (initOf (Pipeline.cells cfgs cellOf_inj) (Pipeline.launchToks cfgs cellOf_inj), (initOf schedCells schedPays, (1 : Counters)))

/-- The rights device `c` pays with for the peer at distance `r`. -/
def pays (c : Dev nD) (r : Fin 8) : sProp 𝕄 :=
  iprop(dutyTok ER (barCell (peer c r)) 0 r ∗ dutyTok ER (recvCell (peer c r) (num c)) 0 (0 : Fin 8) ∗ dutyTok ER (sendCell c r) 0 (0 : Fin 8))

/-- What device `c` is dealt at launch: of each of its cells the unopened round, the position and the opening mark, and
    its rights to pay. -/
def dealt (c : Dev nD) : sProp 𝕄 :=
  iprop((bigSep Finset.univ fun j : Fin 17 => roundState ER (Rd m) (kcell (c, j)) 0)
    ∗ (bigSep Finset.univ fun j : Fin 17 => reached ER (kcell (c, j)) 0)
    ∗ (bigSep Finset.univ fun j : Fin 17 => atPos ER (kcell (c, j)) 0 ∅ 0)
    ∗ bigSep Finset.univ (pays c))

theorem u₀_split : (ownU u₀ : sProp 𝕄)
    ⊢ iprop(BI.own (EP (initOf (Pipeline.cells cfgs cellOf_inj) (Pipeline.launchToks cfgs cellOf_inj))) ∗ BI.own (ER (initOf schedCells schedPays))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf schedCells schedPays, (1 : Counters)))))

theorem three (Φ : Fin 3 → sProp 𝕄) : bigSep Finset.univ Φ = iprop(Φ 0 ∗ Φ 1 ∗ Φ 2) :=
  bigSep_univ_eq_bigSepL [0, 1, 2] (by decide) (by decide) Φ

theorem deal : BI.own (ER (initOf schedCells schedPays)) ⊢ (|==> bigSep Finset.univ (dealt m) : sProp 𝕄) := by
  have hcells (Φ : GSem nD τ sig → sProp 𝕄) :
      bigSep schedCells Φ = bigSep Finset.univ fun c : Dev nD => bigSep Finset.univ fun j : Fin 17 => Φ (kcell (c, j)) := by
    unfold schedCells; rw [bigSep_map, bigSep_univ_prod]; rfl
  have hpays : bigSep schedPays (fun x => (dutyTok ER x.1 x.2.1 x.2.2 : sProp 𝕄)) = bigSep Finset.univ fun c : Dev nD => bigSep Finset.univ (pays c) := by
    unfold schedPays; rw [bigSep_map, bigSep_univ_prod, bigSep_univ_prod]
    refine bigSep_congr fun c _ => bigSep_congr fun r _ => ?_
    exact three (F := F) fun k => dutyTok ER (payOf ((c, r), k)).1 (payOf ((c, r), k)).2.1 (payOf ((c, r), k)).2.2
  iintro H
  imod (Rounds.fund ER (Rd m) schedCells schedPays) $$ H with ⟨Hst, Hr, Hat, Hp⟩
  imodintro
  unfold dealt
  rw [bigSep_sep', bigSep_sep', bigSep_sep', ← hcells fun g => roundState ER (Rd m) g 0, ← hcells fun g => reached ER g 0, ← hcells fun g => atPos ER g 0 ∅ 0, ← hpays]
  isplitl [Hst]; · iexact Hst
  isplitl [Hr]; · iexact Hr
  isplitl [Hat]; · iexact Hat
  iexact Hp

/-! ## A device's semaphores -/

/-- Seventeen things, one per scheduled cell of a device: the barrier's, the send cells', the receive cells'. -/
theorem split17 (Φ : Fin 17 → sProp 𝕄) :
    bigSep Finset.univ Φ = iprop(Φ 0 ∗ (bigSep Finset.univ fun r : Fin 8 => Φ (sendJ r)) ∗ bigSep Finset.univ fun s : Fin 8 => Φ (recvJ s)) := by
  have h : (Finset.univ : Finset (Fin 17)) = {0} ∪ (Finset.univ.map ⟨sendJ, by decide⟩ ∪ Finset.univ.map ⟨recvJ, by decide⟩) := by decide
  rw [h, bigSep_union (by decide), bigSep_union (by decide), bigSep_singleton, bigSep_map, bigSep_map]; rfl

theorem split_cells (c : Dev nD) (Φ : GSem nD τ sig → sProp 𝕄) :
    (bigSep Finset.univ fun j : Fin 17 => Φ (kcell (c, j)))
      = iprop(Φ (barCell c) ∗ (bigSep Finset.univ fun r : Fin 8 => Φ (sendCell c r)) ∗ bigSep Finset.univ fun r : Fin 8 => Φ (recvCell c (num (peer c r)))) := by
  rw [split17]
  have h1 : (fun r : Fin 8 => Φ (kcell (c, sendJ r))) = fun r => Φ (sendCell c r) := funext fun r => by
    show Φ ((c : Thread nD τ), csem (sendJ r)) = _; rw [csem_send]
  have h2 : (fun s : Fin 8 => Φ (kcell (c, recvJ s))) = fun s => Φ (recvCell c s) := funext fun s => by
    show Φ ((c : Thread nD τ), csem (recvJ s)) = _; rw [csem_recv]
  rw [h1, h2, bigSep_univ_equiv (around c) fun s : Fin 8 => Φ (recvCell c s)]
  rfl

/-- The kernel's own semaphores: two for the weight copies, eight to send, eight to receive. -/
def osem (k : Fin 18) : SemLoc sig := .dma ⟨2 + k.val, by have := k.isLt; show _ < 20; omega⟩
theorem ownSemFacts : Pipeline.OwnSemFacts cfg0.spec osem := by decide

theorem split18 (Φ : Fin 18 → sProp 𝕄) :
    bigSep Finset.univ Φ = iprop(Φ 0 ∗ Φ 1 ∗ (bigSep Finset.univ fun r : Fin 8 => Φ ⟨2 + r.val, by omega⟩) ∗ bigSep Finset.univ fun s : Fin 8 => Φ ⟨10 + s.val, by omega⟩) := by
  have h : (Finset.univ : Finset (Fin 18)) = {0} ∪ ({1} ∪ (Finset.univ.map ⟨fun r : Fin 8 => (⟨2 + r.val, by omega⟩ : Fin 18), by decide⟩
      ∪ Finset.univ.map ⟨fun r : Fin 8 => (⟨10 + r.val, by omega⟩ : Fin 18), by decide⟩)) := by decide
  rw [h, bigSep_union (by decide), bigSep_union (by decide), bigSep_union (by decide), bigSep_singleton, bigSep_singleton, bigSep_map, bigSep_map]; rfl

theorem own_sems (c : Dev nD) : (Pipeline.ownSems0 (Ix := Unit) (Name := ℕ) (U := UU) (Lvl := ℕ) (Val := Elt F) (τ := τ) osem c : sProp 𝕄)
    = iprop(semVal ((c : Thread nD τ), .dma (wSem 0)) 0 ∗ semVal ((c : Thread nD τ), .dma (wSem 1)) 0
        ∗ (bigSep Finset.univ fun r : Fin 8 => semVal (sendCell c r) 0) ∗ bigSep Finset.univ fun r : Fin 8 => semVal (recvCell c (num (peer c r))) 0) := by
  unfold Pipeline.ownSems0
  rw [split18]
  have h1 : (fun r : Fin 8 => (semVal ((c : Thread nD τ), osem ⟨2 + r.val, by omega⟩) 0 : sProp 𝕄)) = fun r => semVal (sendCell c r) 0 := funext fun r => by
    have : osem ⟨2 + r.val, by omega⟩ = .dma (sendSem r) := by revert r; decide
    rw [this]
  have h2 : (fun s : Fin 8 => (semVal ((c : Thread nD τ), osem ⟨10 + s.val, by omega⟩) 0 : sProp 𝕄)) = fun s => semVal (recvCell c s) 0 := funext fun s => by
    have : osem ⟨10 + s.val, by omega⟩ = .dma (recvSem s) := by revert s; decide
    rw [this]
  rw [h1, h2, bigSep_univ_equiv (around c) fun s : Fin 8 => (semVal (recvCell c s) 0 : sProp 𝕄)]
  rfl
theorem unscoped_sems (c : Dev nD) : (unscopedSems0 c : sProp 𝕄) = semVal (barCell c) 0 := by
  unfold unscopedSems0; rw [bigSep_eq_bigSepL_of_eq [SemLoc.reg barS] (by decide) (by decide)]; rfl

/-! ## From what is dealt to what every device starts from -/

/-- What stays with device `c`: its positions, its rights to pay, the counters of its weight copies. -/
def kept (c : Dev nD) : sProp 𝕄 :=
  iprop((bigSep Finset.univ fun j : Fin 17 => atPos ER (kcell (c, j)) 0 ∅ 0) ∗ bigSep Finset.univ (pays c)
    ∗ semVal ((c : Thread nD τ), .dma (wSem 0)) 0 ∗ semVal ((c : Thread nD τ), .dma (wSem 1)) 0)

/-- What device `c` has after the launch's common step. -/
def readied (c : Dev nD) : sProp 𝕄 := iprop(∃ K, records m K ∗ kept c)

/-- Each device makes the invariants of its own cells. -/
theorem make_invs (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun j : Fin 17 => iprop((∃ κ : ℕ, cellInv ER (Rd m) κ (kcell (c, j))) ∗ reached ER (kcell (c, j)) 0)) ∗ kept c) := by
  rw [own_sems, unscoped_sems]
  unfold dealt kept
  rw [bigSep_sep']
  iintro ⟨⟨Hw0, Hw1, HS, HV⟩, HB, Hst, Hr, Hat, Hp⟩
  ihave Hv := (Entails.of_eq (split_cells (F := F) c fun g => semVal g 0).symm) $$ [HB HS HV]
  · isplitl [HB]; · iexact HB
    isplitl [HS]; · iexact HS
    iexact HV
  have halloc : iprop((bigSep Finset.univ fun j : Fin 17 => semVal (kcell (c, j)) 0) ∗ bigSep Finset.univ fun j : Fin 17 => roundState ER (Rd m) (kcell (c, j)) 0)
      ⊢ (|={Set.univ}=> bigSep Finset.univ fun j : Fin 17 => iprop(∃ κ : ℕ, cellInv ER (Rd m) κ (kcell (c, j))) : sProp 𝕄) := by
    rw [← bigSep_sep']
    exact (bigSep_mono fun j _ => (Rounds.body_intro ER (Rd m) (kcell (c, j))).trans inv_alloc).trans (bigSep_fupd _ _)
  imod halloc $$ [Hv Hst] with HI
  · isplitl [Hv]; · iexact Hv
    iexact Hst
  imodintro
  isplitl [HI Hr]
  · isplitl [HI]; · iexact HI
    iexact Hr
  isplitl [Hat]; · iexact Hat
  isplitl [Hp]; · iexact Hp
  isplitl [Hw0]; · iexact Hw0
  iexact Hw1

/-- The invariants of all cells become known to every device. -/
theorem share_invs :
    (bigSep Finset.univ fun c : Dev nD => iprop((bigSep Finset.univ fun j : Fin 17 => iprop((∃ κ : ℕ, cellInv ER (Rd m) κ (kcell (c, j))) ∗ reached ER (kcell (c, j)) 0)) ∗ kept c) : sProp 𝕄)
      ⊢ bigSep Finset.univ (readied m) := by
  rw [bigSep_sep', ← bigSep_univ_prod (fun ck : Dev nD × Fin 17 => iprop((∃ κ : ℕ, cellInv ER (Rd m) κ (kcell ck)) ∗ (reached ER (kcell ck) 0 : sProp 𝕄))), bigSep_sep']
  iintro ⟨⟨HI, HR⟩, Hk⟩
  ihave HI := (BI.bigSep_exists_pi (Y := fun _ => ℕ) Finset.univ (fun (ck : Dev nD × Fin 17) (κ : ℕ) => (cellInv ER (Rd m) κ (kcell ck) : sProp 𝕄))) $$ HI
  icases HI with ⟨%K, HI⟩
  have hrec : iprop((bigSep Finset.univ fun ck : Dev nD × Fin 17 => cellInv ER (Rd m) (K ck) (kcell ck)) ∗ bigSep Finset.univ fun ck : Dev nD × Fin 17 => reached ER (kcell ck) 0)
      ⊢ (records m K : sProp 𝕄) := by
    unfold records; rw [← bigSep_sep']
  ihave Hrec := hrec $$ [HI HR]
  · isplitl [HI]; · iexact HI
    iexact HR
  have hone : ∀ c : Dev nD, (iprop(records m K ∗ kept c) : sProp 𝕄) ⊢ readied m c := fun c => by
    unfold readied
    iintro H; iexists K; iexact H
  have hall : iprop(records m K ∗ bigSep Finset.univ fun c : Dev nD => kept c) ⊢ (bigSep Finset.univ (readied m) : sProp 𝕄) := by
    refine (sep_mono_left (BI.bigSep_of_persistent (Finset.univ : Finset (Dev nD)) (records m K))).trans ?_
    rw [← bigSep_sep']
    exact bigSep_mono fun c _ => hone c
  iapply hall
  isplitl [Hrec]; · iexact Hrec
  iexact Hk

/-- The launch's common step. -/
theorem ready : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (readied m) :=
  ((bigSep_mono fun c _ => make_invs m c).trans (bigSep_fupd _ _)).trans (BI.fupd_mono (share_invs m))

/-! ## The credit of what is owed -/

theorem Odue_recv (d c : Dev nD) (s : Fin 8) (l : List (Fin 8)) :
    Odue d l (recvCell c s) () = (l.countP fun r => decide (peer d r = c ∧ num d = s)) * N := by
  induction l with
  | nil => exact (Nat.zero_mul _).symm
  | cons r l ih =>
    unfold Odue
    rw [Pi.add_apply, Finsupp.add_apply, ih, tallyAt_apply, List.countP_cons, Nat.add_mul]
    congr 1
    by_cases h : peer d r = c ∧ num d = s
    · rw [if_pos ⟨recvCell_iff.mpr ⟨h.1.symm, h.2.symm⟩, rfl⟩, if_pos (by simpa using h), Nat.one_mul]
    · rw [if_neg (fun h' => h (by obtain ⟨a, b⟩ := recvCell_iff.mp h'.1; exact ⟨a.symm, b.symm⟩)), if_neg (by simpa using h), Nat.zero_mul]
theorem Odue_bar (d c : Dev nD) (l : List (Fin 8)) : Odue d l (barCell c) () = 0 := by
  induction l with
  | nil => rfl
  | cons r l ih =>
    unfold Odue
    rw [Pi.add_apply, Finsupp.add_apply, ih, tallyAt_apply, if_neg (fun h => recv_ne_bar h.1.symm)]
theorem Bdue_bar (d c : Dev nD) (l : List (Fin 8)) : Bdue d l (barCell c) () = l.countP fun r => decide (peer d r = c) := by
  induction l with
  | nil => exact Odue_bar d c order
  | cons r l ih =>
    unfold Bdue
    rw [Pi.add_apply, Finsupp.add_apply, ih, tallyAt_apply, List.countP_cons]
    congr 1
    by_cases h : peer d r = c
    · rw [if_pos ⟨barCell_iff.mpr h.symm, rfl⟩, if_pos (by simpa using h)]
    · rw [if_neg (fun h' => h (barCell_iff.mp h'.1).symm), if_neg (by simpa using h)]
theorem Bdue_recv (d c : Dev nD) (s : Fin 8) (l : List (Fin 8)) : Bdue d l (recvCell c s) () = Odue d order (recvCell c s) () := by
  induction l with
  | nil => rfl
  | cons r l ih =>
    unfold Bdue
    rw [Pi.add_apply, Finsupp.add_apply, ih, tallyAt_apply, if_neg (fun h => recv_ne_bar h.1), Nat.add_zero]

/-- What a device owes at launch. -/
abbrev O₀ (c : Dev nD) : CellTallies nD τ sig Unit := Bdue c order

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => Bdue_bar d c order]
  revert c; decide
theorem credit_recv (c : Dev nD) {r : Fin 8} (hr : r ≠ 0) :
    tallyOn (recvCell c (num (peer c r))) (launchCredit (Pipeline.owing O₀) 0 (recvCell c (num (peer c r))))
      = (tallyAt (recvCell c (num (peer c r))) () N : CellTallies nD τ sig Unit) := by
  unfold tallyAt; refine congrArg _ (Finsupp.ext fun u => ?_); cases u
  rw [Pipeline.launchCredit_owing, Finsupp.single_eq_same, Finset.sum_congr rfl fun d _ => (Bdue_recv d c _ order).trans (Odue_recv d c _ order), ← Finset.sum_mul]
  have h : (∑ d : Dev nD, order.countP fun r' => decide (peer d r' = c ∧ num d = num (peer c r))) = 1 := by
    revert c r; decide
  rw [h, Nat.one_mul]

/-- Every device's credit: seven units of its barrier cell, a copy's worth of each receive cell but its own. -/
theorem credits (c : Dev nD) :
    (Pipeline.launchCred O₀ c : sProp 𝕄) ⊢ iprop(cred (tallyAt (barCell c) () 7) ∗ bigSep dists fun r => cred (tallyAt (recvCell c (num (peer c r))) () N)) := by
  have h : (Pipeline.launchCred O₀ c : sProp 𝕄) ⊢ bigSep Finset.univ fun j : Fin 17 => cred (tallyOn (kcell (c, j)) (launchCredit (Pipeline.owing O₀) 0 (kcell (c, j)))) := by
    unfold Pipeline.launchCred
    refine (BI.bigSep_subset (Finset.subset_univ (Finset.univ.map ⟨csem, csem_inj⟩))).trans ?_
    rw [bigSep_map]; exact BI.Entails.refl _
  refine h.trans ?_
  rw [split_cells c fun g => (cred (tallyOn g (launchCredit (Pipeline.owing O₀) 0 g)) : sProp 𝕄), credit_bar]
  refine sep_mono_right (sep_elim_right.trans ?_)
  rw [univ_dists]
  refine sep_elim_right.trans (bigSep_mono fun r hr => ?_)
  rw [credit_recv c (Finset.ne_of_mem_erase hr)]
  exact BI.Entails.refl _

/-- All a device has after the launch is what its kernel starts from. -/
theorem ghost_of (c : Dev nD) : iprop(levAts L lv ∗ Pipeline.launchCred O₀ c ∗ readied m c) ⊢ (iprop(∃ K, ghost m K c) : sProp 𝕄) := by
  unfold readied kept
  rw [split_cells c fun g => (atPos ER g 0 ∅ 0 : sProp 𝕄), univ_dists, univ_dists (F := F) (fun r => atPos ER (recvCell c (num (peer c r))) 0 ∅ 0),
    univ_dists (F := F) (pays c), peer_zero]
  iintro ⟨Hlev, Hcr, ⟨%K, HR, ⟨HatB, ⟨HatS0, HatS⟩, HatV0, HatV⟩, ⟨-, Hp⟩, Hw0, Hw1⟩⟩
  ihave Hc := (credits (F := F) c) $$ Hcr
  icases Hc with ⟨HcB, HcV⟩
  iexists K
  unfold ghost
  isplitl [HR]; · iexact HR
  isplitl [Hlev]; · iexact Hlev
  isplitl [HatB]; · iexact HatB
  isplitl [HcB]; · iexact HcB
  isplitl [HatS0]; · iexact HatS0
  isplitl [HatV0]; · iexact HatV0
  isplitr [Hw0 Hw1]
  · have hg : iprop((bigSep dists (pays c)) ∗ (bigSep dists fun r => atPos ER (sendCell c r) 0 ∅ 0)
        ∗ (bigSep dists fun r => atPos ER (recvCell c (num (peer c r))) 0 ∅ 0) ∗ bigSep dists fun r => cred (tallyAt (recvCell c (num (peer c r))) () N))
        ⊢ (bigSep dists (gear c) : sProp 𝕄) := by
      rw [← bigSep_sep', ← bigSep_sep', ← bigSep_sep']
      refine all_mono fun r => ?_
      unfold pays gear
      iintro ⟨⟨H1, H2, H3⟩, H4, H5, H6⟩
      isplitl [H1]; · iexact H1
      isplitl [H2]; · iexact H2
      isplitl [H3]; · iexact H3
      isplitl [H4]; · iexact H4
      isplitl [H5]; · iexact H5
      iexact H6
    iapply hg
    isplitl [Hp]; · iexact Hp
    isplitl [HatS]; · iexact HatS
    isplitl [HatV]; · iexact HatV
    iexact HcV
  isplitl [Hw0]; · iexact Hw0
  iexact Hw1

end Cert.GemmProof
end
-- ==== Proof.Launch.lean ====
/-
The launch: the eight devices' kernels run together from any memory with every counter at zero, and every run ends with
each device's result filled as computed, its arguments as they were and every counter at zero.
-/
module

public import proofs.«01_k».proof.Proof.Deal
public import proofs.«01_k».proof.Proof.Gen.KernelIdeal.Launch

@[expose] public section

noncomputable section

namespace Cert.GemmProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel is given and what it leaves, as the launch states it -/

/-- At entry, besides the staged buffers: the share of the schedule, `w`, the two scratch buffers. -/
def Φin (c : Dev nD) : sProp 𝕄 := iprop((∃ K, ghost m K c) ∗ gAll m c ∗ wWhole c ∗ yWhole c)
/-- At the end: `w`, the scratch buffers, every counter at zero. -/
def Φout (c : Dev nD) : sProp 𝕄 :=
  iprop(gAll m c ∗ wWhole c ∗ yWhole c ∗ semVal (barCell c) 0
    ∗ semVal ((c : Thread nD τ), .dma (wSem 0)) 0 ∗ semVal ((c : Thread nD τ), .dma (wSem 1)) 0
    ∗ (bigSep Finset.univ fun r : Fin 8 => semVal (sendCell c r) 0) ∗ bigSep Finset.univ fun r : Fin 8 => semVal (recvCell c (num (peer c r))) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => oC m c
  Φ t := match t with
    | ⟨0, _⟩ => Φin m c
    | ⟨_ + 1, _⟩ => Φout m c
  q _ := fullShare
  owed t := match t with
    | ⟨0, _⟩ => O₀ c
    | ⟨_ + 1, _⟩ => 0

abbrev pt : Fin cfg0.N := t0_0
theorem pt_only (t : Fin cfg0.N) : t = pt := fin_N0 t
theorem fetch_x (t : Fin cfg0.N) : (cfg0.win (0 : Fin 2)).fetch t = true := by rw [pt_only t]; rfl

/-- A staged buffer, held whole. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

set_option maxRecDepth 4000 in
def bodyIn (c : Dev nD) : sProp 𝕄 :=
  iprop(Φin m c ∗ (dats m 0 c).owesAt () pt.castSucc
    ∗ (∃ d, held c cc0_stg0_0 ((dats m 0 c).before (0 : Fin 2) pt d))
    ∗ (∃ d, held c cc0_stg1_0 ((dats m 0 c).before (1 : Fin 2) pt d)))
set_option maxRecDepth 4000 in
def bodyOut (c : Dev nD) : sProp 𝕄 :=
  iprop(Φout m c ∗ (dats m 0 c).owesAt () pt.succ ∗ held c cc0_stg0_0 (xstg m c) ∗ held c cc0_stg1_0 (oC m c))

theorem in_pre (c : Dev nD) : bodyIn m c ⊢ (iprop(∃ K, pre m c K) : sProp 𝕄) := by
  unfold bodyIn Φin pre Dat.owesAt Pipeline.owesWithin gAll xAll oAny oweB
  rw [show (dats m 0 c).owed pt.castSucc = O₀ c from rfl]
  iintro ⟨⟨⟨%K, HG⟩, Hg, Hw, Hy⟩, ⟨%W, %hW, HO⟩, ⟨%d0, %f0, %h0, Hx⟩, ⟨%d1, %f1, %h1, Ho⟩⟩
  have hx : f0 = xstg m c := by
    rw [h0]; unfold Dat.before; rw [if_pos (fetch_x pt)]; rfl
  subst hx
  iexists K
  isplitl [HG]; · iexact HG
  isplitl [Hw]; · iexact Hw
  isplitl [Hy]; · iexact Hy
  isplitl [Hg]; · iexact Hg
  isplitl [Hx]; · iexact Hx
  isplitl [Ho]; · iexists f1; iexact Ho
  iexists W; iexact HO

theorem post_out (c : Dev nD) : (post m c : sProp 𝕄) ⊢ bodyOut m c := by
  unfold bodyOut Φout post Dat.owesAt Pipeline.owesWithin xAll oweB
  rw [show (dats m 0 c).owed pt.succ = 0 from rfl]
  iintro ⟨Hw, Hy, Hg, Hx, Ho, ⟨%W, HO⟩, HB, Hv0, Hv1, HS, HV⟩
  isplitl [Hw Hy Hg HB Hv0 Hv1 HS HV]
  · isplitl [Hg]; · iexact Hg
    isplitl [Hw]; · iexact Hw
    isplitl [Hy]; · iexact Hy
    isplitl [HB]; · iexact HB
    isplitl [Hv0]; · iexact Hv0
    isplitl [Hv1]; · iexact Hv1
    isplitl [HS]; · iexact HS
    iexact HV
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem windows (Φ : Fin cfg0.W → sProp 𝕄) : bigSep Finset.univ Φ = iprop(Φ (0 : Fin 2) ∗ Φ (1 : Fin 2)) := bigSep_W0 Φ

set_option maxRecDepth 40000 in
/-- Each device's body does what the launch asks of it. -/
theorem body_ok (c : Dev nD) : BodyObligation (dats (F := F) m 0 c) (defs₀ (F := F)) 𝒱₀ () Set.univ := fun t => by
  rw [pt_only t]
  rw [windows, windows]
  simp only [owns_held]
  show bodyIn m c ⊢ wp frame (wpE (defs₀ (F := F)) 𝒱₀ c none) Set.univ
    (cc0_body (Memref.whole cc0_stg0_0) (Memref.isWhole_whole _) (Memref.whole main_arg1) (Memref.isWhole_whole _)
      (Memref.whole cc0_stg1_0) (Memref.isWhole_whole _) (Memref.whole cc0_scratch0) (Memref.isWhole_whole _)
      (Memref.whole cc0_scratch1) (Memref.isWhole_whole _) cc0_scratch2 cc0_scratch3 cc0_scratch4) (fun _ => bodyOut m c)
  iintro H
  ihave H := (in_pre m c) $$ H
  icases H with ⟨%K, H⟩
  iapply (body_run m c K fun _ => bodyOut m c)
  isplitl [H]; · iexact H
  iintro H
  iapply (post_out m c) $$ H

/-! ## The launch's side conditions -/

theorem share_full (c : Dev nD) (w : Fin cfg0.W) : (dats m 0 c).share w = fullShare := by unfold Dat.share; split <;> rfl

/-- What a device keeps from the launch to its kernel. -/
def given (c : Dev nD) : sProp 𝕄 := iprop((∃ K, ghost m K c) ∗ gAll m c)

theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ readied m c)
      ⊢ |={Set.univ}=> iprop(given m c ∗ emp) := by
  rw [Pipeline.unscopedRestP_none, unscopedRest0_eq]
  iintro ⟨Hg, Hlev, Hcr, -, Hr⟩
  imodintro
  unfold given gAll wts
  isplitl
  · isplitr [Hg]
    · iapply (ghost_of m c)
      isplitl [Hlev]; · iexact Hlev
      isplitl [Hcr]; · iexact Hcr
      iexact Hr
    · iexact Hg
  · iempintro

theorem enter (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φin m c from rfl, scopedRest0_eq]
  unfold Φin given wWhole yWhole
  iintro ⟨⟨HG, Hg⟩, -, Hw, Hy⟩
  isplitl [HG]; · iexact HG
  isplitl [Hg]; · iexact Hg
  isplitl [Hw]; · iexact Hw
  iexact Hy

theorem leave (c : Dev nD) :
    (dats m 0 c).Φ (Fin.last cfg0.N) ⊢ iprop((unscopedSems0 c ∗ gAll m c) ∗ Pipeline.ownSems0 osem c ∗ Pipeline.scopedRest cfg0.spec c) := by
  rw [show (dats m 0 c).Φ (Fin.last cfg0.N) = Φout m c from rfl, scopedRest0_eq, own_sems, unscoped_sems]
  unfold Φout wWhole yWhole
  iintro ⟨Hg, Hw, Hy, HB, Hv0, Hv1, HS, HV⟩
  isplitl [HB Hg]
  · isplitl [HB]; · iexact HB
    iexact Hg
  isplitl [Hv0 Hv1 HS HV]
  · isplitl [Hv0]; · iexact Hv0
    isplitl [Hv1]; · iexact Hv1
    isplitl [HS]; · iexact HS
    iexact HV
  isplitl [Hw]; · iexact Hw
  iexact Hy

theorem waits_ok (c : Dev nD) : (levAts L lv : sProp 𝕄) ⊢ Pipeline.cellsWaits cfgs (dats m) () 0 c :=
  Pipeline.cellsWaits_intro cfgs (dats m) () 0 c fun w s t =>
    mayWait_low c (by fin_cases w <;> fin_cases s <;> decide) _ (by
      rcases t with ⟨_ | _, ht⟩
      · exact Or.inr (Or.inr ⟨order, rfl⟩)
      · exact Or.inl rfl)

theorem read_w (c : Dev nD) (s' : Phys nD τ sig (Elt F)) :
    iprop(gAll m c ∗ SI s') ⊢ (iprop(⌜s'.mem.mem (gLoc c) = wts m c⌝ ∗ SI s') : sProp 𝕄) := by
  have h := pointsTo_read_all (Ix := Unit) (Name := ℕ) (U := UU) (Lvl := ℕ) ({()} : Finset Unit) (fun _ => gLoc c) (fun _ => wts m c) s' fullShare
  rw [bigSep_singleton] at h
  unfold gAll
  iintro H
  ihave H := h $$ H
  icases H with ⟨%H, HS⟩
  isplitr
  · ipureintro; exact H () (Finset.mem_singleton_self _)
  iexact HS

/-! ## The run -/

/-- The result array after the run. -/
theorem result_arr (c : Dev nD) : (dats m 0 c).arrAt (1 : Fin 2) cfg0.N = oC m c := by
  have hr := fun f => Memref.read_access_unit_zero (Elt F) main_v1 (off := fun a => (win0_1.index (0 : Fin 1)) a * main_v1.ty.shape.size a)
    (funext fun a => by fin_cases a <;> decide) (fun a => by fin_cases a <;> decide) f
  have h : (win0_1.blk (0 : Fin 1)).view.read (Elt F) ((dats m 0 c).arrAt (1 : Fin 2) cfg0.N) = oC m c := by
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (hr _).symm.trans h

theorem x_staged (c : Dev nD) : xstg m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

set_option maxRecDepth 8000 in
/-- From any memory with zero counters, every weakly fair run of the eight devices terminates without a fault; at its end
    each device's result is filled as `oC` says, its arguments are as they were, and every counter is zero. -/
theorem run_main : θ_run defs (onTc (τ := τ) (main (F := F))) (s₀ m ρ) (fun r => (∀ c : Dev nD,
      r.2.mem ((c : Thread nD τ).loc main_v1) = oC m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ok m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits_ok m)
    (G := dealt m) (G' := readied m) (u₀ := u₀)
    (hu₀ := by
      iintro Hu
      ihave H := u₀_split $$ Hu
      icases H with ⟨HP, HX⟩
      imod (deal m) $$ HX with HG
      imodintro
      isplitl [HP]; · iexact HP
      iexact HG)
    (hglob := ready m)
    (hA := fun _ _ => rfl) (hpf := fun _ k => k.elim0)
    (X := given m) (Y := fun c => iprop(unscopedSems0 c ∗ gAll m c)) (Z := fun _ => iprop(emp))
    (hX := given_intro m ρ) (hin := enter m) (hout := leave m)
    (QY := fun c s => (∀ sm : SemLoc sig, sm.isScoped .tc = false → s.sem ((c.tc : Thread nD τ), sm) = 0) ∧ s.mem (gLoc c) = wts m c)
    (hY := fun c s' => by
      iintro ⟨⟨Hu, Hg⟩, -, HSI⟩
      ihave H := (read_w m c s') $$ [Hg HSI]
      · isplitl [Hg]; · iexact Hg
        iexact HSI
      icases H with ⟨%hg, HSI⟩
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hs, hg⟩
      iexact HSI)
    (hQ := fun _ h hs => ⟨fun c => ⟨((h c).1 (1 : Fin 2)).trans (result_arr m c),
      ((h c).1 (0 : Fin 2)).trans ((dats m 0 c).arrAt_in (0 : Fin 2) rfl _), (h c).2.2.2⟩, sem_eq_zero hs fun c => (h c).2.2.1⟩)

end Cert.GemmProof
end
-- ==== Proof.Value.lean ====
/-
The value: in exact arithmetic each device's result, as the kernel fills it, is that device's columns of the whole
product `x @ w`.

Both are sums over the same 4096 positions.  Row `i` of the result lies in the row block of device `i / 512`, at row
`i % 512` of that device's rows of `x`, and column `j` of device `c`'s result is column `1024 c + j` of `w`.
-/
module

public import proofs.«01_k».proof.Proof.Launch
public import proofs.«01_k».proof.Proof.Gen.ReferenceIdeal.Run
public import Idealize.ShloMosaic.Lib.StackMember
public import Idealize.ShloMosaic.Lib.KernelVsHost
public import Idealize.ShloMosaic.Lib.Layout

@[expose] public section

noncomputable section

namespace Cert.GemmProof

open Cert.KernelIdeal Cert.KernelIdeal.Gen
open Idealize.ShloMosaic
open Idealize.ShloMosaic.TcCoe
open Idealize.ShloMosaic.ValueIdx (ix2 ix3 eq_ix2 eq_ix3)
open Idealize.ShloMosaic.StackMember (dotGeneral_plain_apply)
open scoped BigOperators

/-- Dropping the leading axis of one keeps the two coordinates behind it. -/
theorem dropUnit_apply (v : FVec Ideal S1x4096x512 .f32) (k : Fin 4096) (l : Fin 512) :
    shapeCast S4096x512 v shapeCasts_S1x4096x512_S4096x512 (ix2 k l) = v (ix3 (0 : Fin 1) k l) :=
  shapeCast_apply v _ (ix2 k l) (ix3 (0 : Fin 1) k l) (by
    rw [Shape.rowMajor_val_three, Shape.rowMajor_val_two]
    show (0 * 4096 + k.val) * 512 + l.val = k.val * 512 + l.val
    omega)

/-- The kernel's product of 512 rows and 512 columns, read at a row and a column: the sum over the 4096 positions. -/
theorem product_apply (a : Vec Ideal S512x4096 .f32) (b : Vec Ideal S1x4096x512 .f32) (r l : Fin 512) :
    k0_pay2 a b (ix2 r l) = ∑ k : Fin 4096, a (ix2 r k) * b (ix3 (0 : Fin 1) k l) := by
  unfold k0_pay2
  have hd : dot_S512x4096_S4096x512_S512x512_1_0_0_1_n_n = DotDims.plain 512 4096 512 := rfl
  refine ((congrFun (matmul_zero_eq_dotGeneral _ none _ _) (ix2 r l)).trans ?_)
  rw [hd]
  refine (dotGeneral_plain_apply none _ _ r l).trans (Finset.sum_congr rfl fun k _ => ?_)
  rw [shapeCast_self]
  exact congrArg _ (dropUnit_apply b k l)

/-- The reference's product, read at a row and a column: the sum over the 4096 positions. -/
theorem whole_apply (X : FVec Ideal ⟨2, ![4096, 4096]⟩ .f32) (W : FVec Ideal ⟨2, ![4096, 8192]⟩ .f32) (r : Fin 4096) (l : Fin 8192) :
    Host.dotGeneral Cert.ReferenceIdeal.dot_S4096x4096_S4096x8192_S4096x8192_1_0_0_1_n_n none X W (ix2 r l)
      = ∑ k : Fin 4096, X (ix2 r k) * W (ix2 k l) := by
  have hd : Cert.ReferenceIdeal.dot_S4096x4096_S4096x8192_S4096x8192_1_0_0_1_n_n = DotDims.plain 4096 4096 8192 := rfl
  rw [hd]
  exact dotGeneral_plain_apply none X W r l

variable (m : (ℓ : Loc nD τ sig) → Buf (Elt Ideal) ℓ)

/-- If each device holds its rows of `X` and all of `W`, device `c`'s result is its columns of the product of `X` and `W`. -/
theorem result_eq (X : FVec Ideal ⟨2, ![4096, 4096]⟩ .f32) (W : FVec Ideal ⟨2, ![4096, 8192]⟩ .f32)
    (hx : ∀ d : Dev nD, m ((d : Thread nD τ).loc main_arg0) = Layout.block ⟨2, ![512, 4096]⟩ ⟨2, ![4096, 4096]⟩ 0 8 d X)
    (hw : ∀ d : Dev nD, m ((d : Thread nD τ).loc main_arg1) = W) (c : Dev nD) :
    oC m c = Layout.block ⟨2, ![4096, 1024]⟩ ⟨2, ![4096, 8192]⟩ 1 8 c
      (Host.dotGeneral Cert.ReferenceIdeal.dot_S4096x4096_S4096x8192_S4096x8192_1_0_0_1_n_n none X W) := by
  funext i
  have hi : (i 0).val < 4096 := (i 0).isLt
  have hj : (i 1).val < 1024 := (i 1).isLt
  have hc : c.val < 8 := c.isLt
  have h : Layout.Tiles ⟨2, ![4096, 1024]⟩ ⟨2, ![4096, 8192]⟩ 1 8 := by decide
  have e : h.idx c i = ix2 (⟨(i 0).val, hi⟩ : Fin 4096) (⟨c.val * 1024 + (i 1).val, by omega⟩ : Fin 8192) := by
    funext a; apply Fin.ext
    match a with
    | ⟨0, _⟩ => rfl
    | ⟨1, _⟩ => rfl
  refine Eq.trans ?_ ((congrArg _ e).trans (whole_apply X W _ _)).symm
  refine (product_apply _ _ _ _).trans ?_
  refine Finset.sum_congr rfl fun k _ => congrArg₂ (· * ·) ?_ ?_
  · rw [x_staged, hx]
    refine congrArg X (funext fun a => Fin.ext ?_)
    match a with
    | ⟨0, _⟩ =>
      show (i 0).val / 512 % 8 * 512 + (i 0).val % 512 = (i 0).val
      omega
    | ⟨1, _⟩ => rfl
  · unfold wv wts
    rw [hw]
    refine congrArg W (funext fun a => Fin.ext ?_)
    match a with
    | ⟨0, _⟩ => rfl
    | ⟨1, _⟩ =>
      show (1024 * c.val + 512 * ((i 1).val / 512) + (i 1).val % 512) % 8192 = c.val * 1024 + (i 1).val
      omega

end Cert.GemmProof
end
-- ==== Proof.lean ====
/-
The claims about the kernel, its idealisation and the reference, assembled.

Every run of the kernel on eight devices is `run_main` (Proof/Launch.lean), stated for any float values: the first two
claims read it at the two instances, and the value claim reads it in exact arithmetic together with `result_eq`
(Proof/Value.lean), which says that what each device ends with is its columns of the product.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

section

open Cert.KernelIdeal

/-- For any float values, every run of the kernel ends, with its arguments as they were and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (Cert.GemmProof.run_main m ρ)

end

/-- The kernel and its idealisation have the same text: the table that runs the body is the same. -/
theorem bodies_eq {F : FTy → Type} [FloatOps F] : Cert.Kernel.defs₀ (F := F) = Cert.KernelIdeal.defs₀ := by
  refine congrArg Defs.onTc (funext fun l => funext fun a => ?_)
  match l, a with
  | 0, (t, s) => rfl

/-- In the machine's arithmetic every run of the kernel ends, with its arguments as they were and every counter at zero. -/
theorem frame_kernel : Cert.quiescent_Kernel := fun m ρ _ => by
  unfold Cert.Kernel.defs
  rw [bodies_eq]
  exact frame_any (F := Bits) m ρ

/-- In exact arithmetic every run of the kernel ends, with its arguments as they were and every counter at zero. -/
theorem frame_kernelIdeal : Cert.quiescent_KernelIdeal := fun m ρ _ => frame_any (F := Ideal) m ρ

/-- The reference's run ends, with its arguments as they were; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- In exact arithmetic, on every input, each device ends with its columns of the reference's product. -/
theorem algebraic : Cert.algebraic_KernelIdeal_ReferenceIdeal := fun m ρ m' ρ' _ hag =>
  ⟨_, (θ_run Cert.KernelIdeal.defs _ _).mono
      (fun _ h c => ⟨(h.1 c).1.trans (Cert.GemmProof.result_eq m _ _ (fun d => (hag d).1) (fun d => (hag d).2) c), (h.1 c).2⟩)
      (Cert.GemmProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
